-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S2x512x64x64 : Shape := ⟨4, ![2, 512, 64, 64]⟩
abbrev S_ : Shape := ⟨0, ![]⟩
abbrev S2x512x2x64 : Shape := ⟨4, ![2, 512, 2, 64]⟩
abbrev S2x2x512x64 : Shape := ⟨4, ![2, 2, 512, 64]⟩
abbrev S1008x768 : Shape := ⟨2, ![1008, 768]⟩
abbrev S21 : Shape := ⟨1, ![21]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S1x1x512x64 : Shape := ⟨4, ![1, 1, 512, 64]⟩
abbrev S512x64 : Shape := ⟨2, ![512, 64]⟩
abbrev S256 : Shape := ⟨1, ![256]⟩
abbrev S256x1 : Shape := ⟨2, ![256, 1]⟩
abbrev S64x768 : Shape := ⟨2, ![64, 768]⟩
abbrev S1 : Shape := ⟨1, ![1]⟩
abbrev S16x768 : Shape := ⟨2, ![16, 768]⟩

abbrev nBuf : Space → Nat
  | .hbm => 36
  | .vmem => 8
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S2x512x64x64, .bf16⟩
  | .hbm, ⟨4, _⟩ => ⟨S2x512x64x64, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x2x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x2x64, .bf16⟩
  | .hbm, ⟨33, _⟩ => ⟨S2x2x512x64, .bf16⟩
  | .hbm, ⟨34, _⟩ => ⟨S2x2x512x64, .bf16⟩
  | .hbm, ⟨35, _⟩ => ⟨S512x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x2x512x64, .bf16⟩
  | .local _ .vmem, ⟨4, _⟩ => ⟨S2x2x512x64, .bf16⟩
  | .local _ .vmem, ⟨5, _⟩ => ⟨S512x768, .f32⟩
  | .local _ .vmem, ⟨6, _⟩ => ⟨S1008x768, .bf16⟩
  | .local _ .vmem, ⟨7, _⟩ => ⟨S1008x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v71 : BitVec 32 := Scalar.xori v2 c1_i32_31
  let c1_i32_33 : BitVec 32 := 1#32
  let v72 : BitVec 32 := Scalar.muli v71 c1_i32_33
  let v73 : BitVec 32 := Scalar.addi c0_i32_34 v72
  v73.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_35 : BitVec 32 := 8#32
  let v74 : BitVec 32 := Scalar.xori v2 c8_i32_35
  let c1_i32_37 : BitVec 32 := 1#32
  let v75 : BitVec 32 := Scalar.muli v74 c1_i32_37
  let v76 : BitVec 32 := Scalar.addi c0_i32_38 v75
  v76.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v77 : BitVec 32 := Scalar.xori v2 c16_i32
  let c1_i32_40 : BitVec 32 := 1#32
  let v78 : BitVec 32 := Scalar.muli v77 c1_i32_40
  let v79 : BitVec 32 := Scalar.addi c0_i32_41 v78
  v79.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v80 : BitVec 32 := Scalar.xori v2 c24_i32
  let c1_i32_43 : BitVec 32 := 1#32
  let v81 : BitVec 32 := Scalar.muli v80 c1_i32_43
  let v82 : BitVec 32 := Scalar.addi c0_i32_44 v81
  v82.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v83 : BitVec 32 := Scalar.xori v2 c3_i32
  let c1_i32_46 : BitVec 32 := 1#32
  let v84 : BitVec 32 := Scalar.muli v83 c1_i32_46
  let v85 : BitVec 32 := Scalar.addi c0_i32_47 v84
  v85.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v86 : BitVec 32 := Scalar.xori v2 c4_i32
  let c1_i32_49 : BitVec 32 := 1#32
  let v87 : BitVec 32 := Scalar.muli v86 c1_i32_49
  let v88 : BitVec 32 := Scalar.addi c0_i32_50 v87
  v88.toNat
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v89 : BitVec 32 := Scalar.xori v2 c7_i32
  let c1_i32_52 : BitVec 32 := 1#32
  let v90 : BitVec 32 := Scalar.muli v89 c1_i32_52
  let v91 : BitVec 32 := Scalar.addi c0_i32_53 v90
  v91.toNat
def k0_off1 (d0 : Dev nD) : Fin 3 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v97 : BitVec 32 := Scalar.subi c1_i32_59 v69
  let v98 : Index := Scalar.indexCast v97
  let c0_60 : Index := 0#32
  let c0_61 : Index := 0#32
  ![v98.toNat, 0, 0]
def k0_off2 (d0 : Dev nD) : Fin 4 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v97 : BitVec 32 := Scalar.subi c1_i32_59 v69
  let v104 : Index := Scalar.indexCast v97
  let c0_62 : Index := 0#32
  let c0_63 : Index := 0#32
  let c0_64 : Index := 0#32
  ![v104.toNat, 0, 0, 0]
def k0_off3 (d0 : Dev nD) : Fin 4 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v97 : BitVec 32 := Scalar.subi c1_i32_59 v69
  let v192 : Index := Scalar.indexCast v97
  let c1 : Index := 1#32
  let c0_106 : Index := 0#32
  let c0_107 : Index := 0#32
  ![v192.toNat, 1, 0, 0]
def k0_off4 (d0 : Dev nD) : Fin 2 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v97 : BitVec 32 := Scalar.subi c1_i32_59 v69
  let c256_i32 : BitVec 32 := 256#32
  let v281 : BitVec 32 := Scalar.muli v97 c256_i32
  let v282 : Index := Scalar.indexCast v281
  let c0_150 : Index := 0#32
  ![v282.toNat, 0]
def k0_off5 (d0 : Dev nD) (c0_i32_153 : BitVec 32) : Fin 2 → Nat :=
  let c1_i32_151 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v284 : BitVec 32 := Scalar.subi c1_i32_151 v69
  let c256_i32_152 : BitVec 32 := 256#32
  let v285 : BitVec 32 := Scalar.muli v284 c256_i32_152
  let v286 : BitVec 32 := Scalar.addi v285 c0_i32_153
  let v287 : Index := Scalar.indexCast v286
  let c0_154 : Index := 0#32
  ![v287.toNat, 0]
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v96 : BitVec 32 := Scalar.xori v2 c1_i32_58
  let c1_i32_157 : BitVec 32 := 1#32
  let v294 : BitVec 32 := Scalar.muli v96 c1_i32_157
  let v295 : BitVec 32 := Scalar.addi c0_i32_158 v294
  v295.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v96 : BitVec 32 := Scalar.xori v2 c1_i32_58
  let c1_i32_165 : BitVec 32 := 1#32
  let v310 : BitVec 32 := Scalar.muli v96 c1_i32_165
  let v311 : BitVec 32 := Scalar.addi c0_i32_166 v310
  v311.toNat
def k0_dev10 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v96 : BitVec 32 := Scalar.xori v2 c1_i32_58
  let c1_i32_173 : BitVec 32 := 1#32
  let v326 : BitVec 32 := Scalar.muli v96 c1_i32_173
  let v327 : BitVec 32 := Scalar.addi c0_i32_174 v326
  v327.toNat
def k0_dev11 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v96 : BitVec 32 := Scalar.xori v2 c1_i32_58
  let c1_i32_181 : BitVec 32 := 1#32
  let v342 : BitVec 32 := Scalar.muli v96 c1_i32_181
  let v343 : BitVec 32 := Scalar.addi c0_i32_182 v342
  v343.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v350 : Index := Scalar.indexCast v69
  let c0_186 : Index := 0#32
  let c0_187 : Index := 0#32
  ![v350.toNat, 0, 0]
def k0_off7 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v356 : Index := Scalar.indexCast v69
  let c0_189 : Index := 0#32
  let c0_190 : Index := 0#32
  let c0_191 : Index := 0#32
  ![v356.toNat, 0, 0, 0]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v444 : Index := Scalar.indexCast v69
  let c1_233 : Index := 1#32
  let c0_234 : Index := 0#32
  let c0_235 : Index := 0#32
  ![v444.toNat, 1, 0, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_278 : BitVec 32 := 256#32
  let v533 : BitVec 32 := Scalar.muli v69 c256_i32_278
  let v534 : Index := Scalar.indexCast v533
  let c0_279 : Index := 0#32
  ![v534.toNat, 0]
def k0_off10 (d0 : Dev nD) (c0_i32_302 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let v553 : BitVec 32 := Scalar.addi v536 c0_i32_302
  let v554 : Index := Scalar.indexCast v553
  let c0_303 : Index := 0#32
  ![v554.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c0_i32_308 : BitVec 32 := 0#32
  let v563 : BitVec 1 := Scalar.cmpi .eq v538 c0_i32_308
  let v564 : BitVec 32 := Scalar.extui v563
  let c0_i32_311 : BitVec 32 := 0#32
  let v565 : BitVec 1 := Scalar.cmpi .ne v564 c0_i32_311
  v565

def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c64_i32_834 : BitVec 32 := 64#32
  let v1102 : BitVec 32 := Scalar.muli v538 c64_i32_834
  let v1103 : BitVec 32 := Scalar.addi v536 v1102
  let v1104 : Index := Scalar.indexCast v1103
  let c0_835 : Index := 0#32
  ![v1104.toNat, 0]
def k0_dev12 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v537 : BitVec 32 := Scalar.xori v2 c8_i32_281
  let c1_i32_838 : BitVec 32 := 1#32
  let v1111 : BitVec 32 := Scalar.muli v537 c1_i32_838
  let v1112 : BitVec 32 := Scalar.addi c0_i32_839 v1111
  v1112.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c0_i32_312 : BitVec 32 := 0#32
  let v566 : BitVec 1 := Scalar.cmpi .eq v540 c0_i32_312
  let v567 : BitVec 32 := Scalar.extui v566
  let c0_i32_315 : BitVec 32 := 0#32
  let v568 : BitVec 1 := Scalar.cmpi .ne v567 c0_i32_315
  v568

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c64_i32_834 : BitVec 32 := 64#32
  let v1102 : BitVec 32 := Scalar.muli v540 c64_i32_834
  let v1103 : BitVec 32 := Scalar.addi v536 v1102
  let v1104 : Index := Scalar.indexCast v1103
  let c0_835 : Index := 0#32
  ![v1104.toNat, 0]
def k0_dev13 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v539 : BitVec 32 := Scalar.xori v2 c16_i32_283
  let c1_i32_838 : BitVec 32 := 1#32
  let v1111 : BitVec 32 := Scalar.muli v539 c1_i32_838
  let v1112 : BitVec 32 := Scalar.addi c0_i32_839 v1111
  v1112.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c0_i32_316 : BitVec 32 := 0#32
  let v569 : BitVec 1 := Scalar.cmpi .eq v542 c0_i32_316
  let v570 : BitVec 32 := Scalar.extui v569
  let c0_i32_319 : BitVec 32 := 0#32
  let v571 : BitVec 1 := Scalar.cmpi .ne v570 c0_i32_319
  v571

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c64_i32_834 : BitVec 32 := 64#32
  let v1102 : BitVec 32 := Scalar.muli v542 c64_i32_834
  let v1103 : BitVec 32 := Scalar.addi v536 v1102
  let v1104 : Index := Scalar.indexCast v1103
  let c0_835 : Index := 0#32
  ![v1104.toNat, 0]
def k0_dev14 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_285 : BitVec 32 := 24#32
  let v541 : BitVec 32 := Scalar.xori v2 c24_i32_285
  let c1_i32_838 : BitVec 32 := 1#32
  let v1111 : BitVec 32 := Scalar.muli v541 c1_i32_838
  let v1112 : BitVec 32 := Scalar.addi c0_i32_839 v1111
  v1112.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c1_i32_341 : BitVec 32 := 1#32
  let v592 : BitVec 1 := Scalar.cmpi .eq v538 c1_i32_341
  let v593 : BitVec 32 := Scalar.extui v592
  let c0_i32_344 : BitVec 32 := 0#32
  let v594 : BitVec 1 := Scalar.cmpi .ne v593 c0_i32_344
  v594

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c64_i32_834 : BitVec 32 := 64#32
  let v1102 : BitVec 32 := Scalar.muli v538 c64_i32_834
  let v1103 : BitVec 32 := Scalar.addi v536 v1102
  let v1104 : Index := Scalar.indexCast v1103
  let c0_835 : Index := 0#32
  ![v1104.toNat, 0]
def k0_dev15 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v537 : BitVec 32 := Scalar.xori v2 c8_i32_281
  let c1_i32_838 : BitVec 32 := 1#32
  let v1111 : BitVec 32 := Scalar.muli v537 c1_i32_838
  let v1112 : BitVec 32 := Scalar.addi c0_i32_839 v1111
  v1112.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c1_i32_345 : BitVec 32 := 1#32
  let v595 : BitVec 1 := Scalar.cmpi .eq v540 c1_i32_345
  let v596 : BitVec 32 := Scalar.extui v595
  let c0_i32_348 : BitVec 32 := 0#32
  let v597 : BitVec 1 := Scalar.cmpi .ne v596 c0_i32_348
  v597

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c64_i32_834 : BitVec 32 := 64#32
  let v1102 : BitVec 32 := Scalar.muli v540 c64_i32_834
  let v1103 : BitVec 32 := Scalar.addi v536 v1102
  let v1104 : Index := Scalar.indexCast v1103
  let c0_835 : Index := 0#32
  ![v1104.toNat, 0]
def k0_dev16 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v539 : BitVec 32 := Scalar.xori v2 c16_i32_283
  let c1_i32_838 : BitVec 32 := 1#32
  let v1111 : BitVec 32 := Scalar.muli v539 c1_i32_838
  let v1112 : BitVec 32 := Scalar.addi c0_i32_839 v1111
  v1112.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c1_i32_349 : BitVec 32 := 1#32
  let v598 : BitVec 1 := Scalar.cmpi .eq v542 c1_i32_349
  let v599 : BitVec 32 := Scalar.extui v598
  let c0_i32_352 : BitVec 32 := 0#32
  let v600 : BitVec 1 := Scalar.cmpi .ne v599 c0_i32_352
  v600

def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c64_i32_834 : BitVec 32 := 64#32
  let v1102 : BitVec 32 := Scalar.muli v542 c64_i32_834
  let v1103 : BitVec 32 := Scalar.addi v536 v1102
  let v1104 : Index := Scalar.indexCast v1103
  let c0_835 : Index := 0#32
  ![v1104.toNat, 0]
def k0_dev17 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_285 : BitVec 32 := 24#32
  let v541 : BitVec 32 := Scalar.xori v2 c24_i32_285
  let c1_i32_838 : BitVec 32 := 1#32
  let v1111 : BitVec 32 := Scalar.muli v541 c1_i32_838
  let v1112 : BitVec 32 := Scalar.addi c0_i32_839 v1111
  v1112.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c2_i32_374 : BitVec 32 := 2#32
  let v621 : BitVec 1 := Scalar.cmpi .eq v538 c2_i32_374
  let v622 : BitVec 32 := Scalar.extui v621
  let c0_i32_377 : BitVec 32 := 0#32
  let v623 : BitVec 1 := Scalar.cmpi .ne v622 c0_i32_377
  v623

def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c64_i32_834 : BitVec 32 := 64#32
  let v1102 : BitVec 32 := Scalar.muli v538 c64_i32_834
  let v1103 : BitVec 32 := Scalar.addi v536 v1102
  let v1104 : Index := Scalar.indexCast v1103
  let c0_835 : Index := 0#32
  ![v1104.toNat, 0]
def k0_dev18 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v537 : BitVec 32 := Scalar.xori v2 c8_i32_281
  let c1_i32_838 : BitVec 32 := 1#32
  let v1111 : BitVec 32 := Scalar.muli v537 c1_i32_838
  let v1112 : BitVec 32 := Scalar.addi c0_i32_839 v1111
  v1112.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c2_i32_378 : BitVec 32 := 2#32
  let v624 : BitVec 1 := Scalar.cmpi .eq v540 c2_i32_378
  let v625 : BitVec 32 := Scalar.extui v624
  let c0_i32_381 : BitVec 32 := 0#32
  let v626 : BitVec 1 := Scalar.cmpi .ne v625 c0_i32_381
  v626

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c64_i32_834 : BitVec 32 := 64#32
  let v1102 : BitVec 32 := Scalar.muli v540 c64_i32_834
  let v1103 : BitVec 32 := Scalar.addi v536 v1102
  let v1104 : Index := Scalar.indexCast v1103
  let c0_835 : Index := 0#32
  ![v1104.toNat, 0]
def k0_dev19 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v539 : BitVec 32 := Scalar.xori v2 c16_i32_283
  let c1_i32_838 : BitVec 32 := 1#32
  let v1111 : BitVec 32 := Scalar.muli v539 c1_i32_838
  let v1112 : BitVec 32 := Scalar.addi c0_i32_839 v1111
  v1112.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c2_i32_382 : BitVec 32 := 2#32
  let v627 : BitVec 1 := Scalar.cmpi .eq v542 c2_i32_382
  let v628 : BitVec 32 := Scalar.extui v627
  let c0_i32_385 : BitVec 32 := 0#32
  let v629 : BitVec 1 := Scalar.cmpi .ne v628 c0_i32_385
  v629

def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c64_i32_834 : BitVec 32 := 64#32
  let v1102 : BitVec 32 := Scalar.muli v542 c64_i32_834
  let v1103 : BitVec 32 := Scalar.addi v536 v1102
  let v1104 : Index := Scalar.indexCast v1103
  let c0_835 : Index := 0#32
  ![v1104.toNat, 0]
def k0_dev20 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_285 : BitVec 32 := 24#32
  let v541 : BitVec 32 := Scalar.xori v2 c24_i32_285
  let c1_i32_838 : BitVec 32 := 1#32
  let v1111 : BitVec 32 := Scalar.muli v541 c1_i32_838
  let v1112 : BitVec 32 := Scalar.addi c0_i32_839 v1111
  v1112.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c3_i32_407 : BitVec 32 := 3#32
  let v650 : BitVec 1 := Scalar.cmpi .eq v538 c3_i32_407
  let v651 : BitVec 32 := Scalar.extui v650
  let c0_i32_410 : BitVec 32 := 0#32
  let v652 : BitVec 1 := Scalar.cmpi .ne v651 c0_i32_410
  v652

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_282 : BitVec 32 := 1#32
  let v538 : BitVec 32 := Scalar.xori v29 c1_i32_282
  let c64_i32_834 : BitVec 32 := 64#32
  let v1102 : BitVec 32 := Scalar.muli v538 c64_i32_834
  let v1103 : BitVec 32 := Scalar.addi v536 v1102
  let v1104 : Index := Scalar.indexCast v1103
  let c0_835 : Index := 0#32
  ![v1104.toNat, 0]
def k0_dev21 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v537 : BitVec 32 := Scalar.xori v2 c8_i32_281
  let c1_i32_838 : BitVec 32 := 1#32
  let v1111 : BitVec 32 := Scalar.muli v537 c1_i32_838
  let v1112 : BitVec 32 := Scalar.addi c0_i32_839 v1111
  v1112.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c3_i32_411 : BitVec 32 := 3#32
  let v653 : BitVec 1 := Scalar.cmpi .eq v540 c3_i32_411
  let v654 : BitVec 32 := Scalar.extui v653
  let c0_i32_414 : BitVec 32 := 0#32
  let v655 : BitVec 1 := Scalar.cmpi .ne v654 c0_i32_414
  v655

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_284 : BitVec 32 := 2#32
  let v540 : BitVec 32 := Scalar.xori v29 c2_i32_284
  let c64_i32_834 : BitVec 32 := 64#32
  let v1102 : BitVec 32 := Scalar.muli v540 c64_i32_834
  let v1103 : BitVec 32 := Scalar.addi v536 v1102
  let v1104 : Index := Scalar.indexCast v1103
  let c0_835 : Index := 0#32
  ![v1104.toNat, 0]
def k0_dev22 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v539 : BitVec 32 := Scalar.xori v2 c16_i32_283
  let c1_i32_838 : BitVec 32 := 1#32
  let v1111 : BitVec 32 := Scalar.muli v539 c1_i32_838
  let v1112 : BitVec 32 := Scalar.addi c0_i32_839 v1111
  v1112.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c3_i32_415 : BitVec 32 := 3#32
  let v656 : BitVec 1 := Scalar.cmpi .eq v542 c3_i32_415
  let v657 : BitVec 32 := Scalar.extui v656
  let c0_i32_418 : BitVec 32 := 0#32
  let v658 : BitVec 1 := Scalar.cmpi .ne v657 c0_i32_418
  v658

def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_286 : BitVec 32 := 3#32
  let v542 : BitVec 32 := Scalar.xori v29 c3_i32_286
  let c64_i32_834 : BitVec 32 := 64#32
  let v1102 : BitVec 32 := Scalar.muli v542 c64_i32_834
  let v1103 : BitVec 32 := Scalar.addi v536 v1102
  let v1104 : Index := Scalar.indexCast v1103
  let c0_835 : Index := 0#32
  ![v1104.toNat, 0]
def k0_dev23 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_285 : BitVec 32 := 24#32
  let v541 : BitVec 32 := Scalar.xori v2 c24_i32_285
  let c1_i32_838 : BitVec 32 := 1#32
  let v1111 : BitVec 32 := Scalar.muli v541 c1_i32_838
  let v1112 : BitVec 32 := Scalar.addi c0_i32_839 v1111
  v1112.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let v671 : Index := Scalar.indexCast v660
  let c0_435 : Index := 0#32
  ![v671.toNat, 0]
def k0_off24 (d0 : Dev nD) (c1_i32_472 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let v715 : BitVec 32 := Scalar.xori v46 c1_i32_472
  let c16_i32_473 : BitVec 32 := 16#32
  let v716 : BitVec 32 := Scalar.muli v715 c16_i32_473
  let v717 : BitVec 32 := Scalar.addi v660 v716
  let v719 : Index := Scalar.indexCast v717
  let c0_475 : Index := 0#32
  ![v719.toNat, 0]
def k0_dev24 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_474 : BitVec 32 := 3#32
  let v718 : BitVec 32 := Scalar.xori v2 c3_i32_474
  let c1_i32_479 : BitVec 32 := 1#32
  let v726 : BitVec 32 := Scalar.muli v718 c1_i32_479
  let v727 : BitVec 32 := Scalar.addi c0_i32_480 v726
  v727.toNat
def k0_dev25 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_486 : BitVec 32 := 4#32
  let v737 : BitVec 32 := Scalar.xori v2 c4_i32_486
  let c1_i32_490 : BitVec 32 := 1#32
  let v745 : BitVec 32 := Scalar.muli v737 c1_i32_490
  let v746 : BitVec 32 := Scalar.addi c0_i32_491 v745
  v746.toNat
def k0_dev26 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_497 : BitVec 32 := 7#32
  let v756 : BitVec 32 := Scalar.xori v2 c7_i32_497
  let c1_i32_501 : BitVec 32 := 1#32
  let v764 : BitVec 32 := Scalar.muli v756 c1_i32_501
  let v765 : BitVec 32 := Scalar.addi c0_i32_502 v764
  v765.toNat
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let c16_i32_551 : BitVec 32 := 16#32
  let v802 : BitVec 32 := Scalar.muli v46 c16_i32_551
  let v803 : BitVec 32 := Scalar.addi v660 v802
  let v804 : Index := Scalar.indexCast v803
  let c0_552 : Index := 0#32
  ![v804.toNat, 0]
def k0_dev27 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_562 : BitVec 32 := 3#32
  let v825 : BitVec 32 := Scalar.xori v2 c3_i32_562
  let c1_i32_565 : BitVec 32 := 1#32
  let v826 : BitVec 32 := Scalar.muli v825 c1_i32_565
  let v827 : BitVec 32 := Scalar.addi c0_i32_566 v826
  v827.toNat
def k0_dev28 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_571 : BitVec 32 := 4#32
  let v834 : BitVec 32 := Scalar.xori v2 c4_i32_571
  let c1_i32_574 : BitVec 32 := 1#32
  let v835 : BitVec 32 := Scalar.muli v834 c1_i32_574
  let v836 : BitVec 32 := Scalar.addi c0_i32_575 v835
  v836.toNat
def k0_dev29 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_579 : BitVec 32 := 7#32
  let v843 : BitVec 32 := Scalar.xori v2 c7_i32_579
  let c1_i32_581 : BitVec 32 := 1#32
  let v844 : BitVec 32 := Scalar.muli v843 c1_i32_581
  let v845 : BitVec 32 := Scalar.addi c0_i32_582 v844
  v845.toNat
def k0_off26 (d0 : Dev nD) (c1_i32_632 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let c16_i32_551 : BitVec 32 := 16#32
  let v802 : BitVec 32 := Scalar.muli v46 c16_i32_551
  let v803 : BitVec 32 := Scalar.addi v660 v802
  let c16_i32_631 : BitVec 32 := 16#32
  let v882 : BitVec 32 := Scalar.muli v46 c16_i32_631
  let v883 : BitVec 32 := Scalar.subi v803 v882
  let v884 : BitVec 32 := Scalar.xori v46 c1_i32_632
  let c16_i32_635 : BitVec 32 := 16#32
  let v887 : BitVec 32 := Scalar.muli v884 c16_i32_635
  let v888 : BitVec 32 := Scalar.addi v883 v887
  let v889 : Index := Scalar.indexCast v888
  let c0_636 : Index := 0#32
  ![v889.toNat, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let c16_i32_551 : BitVec 32 := 16#32
  let v802 : BitVec 32 := Scalar.muli v46 c16_i32_551
  let v803 : BitVec 32 := Scalar.addi v660 v802
  let c16_i32_631 : BitVec 32 := 16#32
  let v882 : BitVec 32 := Scalar.muli v46 c16_i32_631
  let v883 : BitVec 32 := Scalar.subi v803 v882
  let v906 : Index := Scalar.indexCast v883
  let c0_646 : Index := 0#32
  ![v906.toNat, 0]
def k0_dev30 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_645 : BitVec 32 := 1#32
  let v905 : BitVec 32 := Scalar.xori v2 c1_i32_645
  let c1_i32_649 : BitVec 32 := 1#32
  let v913 : BitVec 32 := Scalar.muli v905 c1_i32_649
  let v914 : BitVec 32 := Scalar.addi c0_i32_650 v913
  v914.toNat
def k0_dev31 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_656 : BitVec 32 := 8#32
  let v928 : BitVec 32 := Scalar.xori v2 c8_i32_656
  let c1_i32_658 : BitVec 32 := 1#32
  let v929 : BitVec 32 := Scalar.muli v928 c1_i32_658
  let v930 : BitVec 32 := Scalar.addi c0_i32_659 v929
  v930.toNat
def k0_dev32 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_663 : BitVec 32 := 16#32
  let v937 : BitVec 32 := Scalar.xori v2 c16_i32_663
  let c1_i32_665 : BitVec 32 := 1#32
  let v938 : BitVec 32 := Scalar.muli v937 c1_i32_665
  let v939 : BitVec 32 := Scalar.addi c0_i32_666 v938
  v939.toNat
def k0_dev33 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_670 : BitVec 32 := 24#32
  let v946 : BitVec 32 := Scalar.xori v2 c24_i32_670
  let c1_i32_672 : BitVec 32 := 1#32
  let v947 : BitVec 32 := Scalar.muli v946 c1_i32_672
  let v948 : BitVec 32 := Scalar.addi c0_i32_673 v947
  v948.toNat
def k0_off28 (d0 : Dev nD) (c1_i32_693 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c256_i32_280 : BitVec 32 := 256#32
  let v536 : BitVec 32 := Scalar.muli v69 c256_i32_280
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c64_i32_419 : BitVec 32 := 64#32
  let v659 : BitVec 32 := Scalar.muli v29 c64_i32_419
  let v660 : BitVec 32 := Scalar.addi v536 v659
  let c16_i32_551 : BitVec 32 := 16#32
  let v802 : BitVec 32 := Scalar.muli v46 c16_i32_551
  let v803 : BitVec 32 := Scalar.addi v660 v802
  let c16_i32_631 : BitVec 32 := 16#32
  let v882 : BitVec 32 := Scalar.muli v46 c16_i32_631
  let v883 : BitVec 32 := Scalar.subi v803 v882
  let c64_i32_677 : BitVec 32 := 64#32
  let v955 : BitVec 32 := Scalar.muli v29 c64_i32_677
  let v956 : BitVec 32 := Scalar.subi v883 v955
  let v967 : BitVec 32 := Scalar.xori v29 c1_i32_693
  let c64_i32_696 : BitVec 32 := 64#32
  let v970 : BitVec 32 := Scalar.muli v967 c64_i32_696
  let v971 : BitVec 32 := Scalar.addi v956 v970
  let v972 : Index := Scalar.indexCast v971
  let c0_697 : Index := 0#32
  ![v972.toNat, 0]
def k0_dev34 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_645 : BitVec 32 := 1#32
  let v905 : BitVec 32 := Scalar.xori v2 c1_i32_645
  let c1_i32_699 : BitVec 32 := 1#32
  let v974 : BitVec 32 := Scalar.muli v905 c1_i32_699
  let v975 : BitVec 32 := Scalar.addi c0_i32_700 v974
  v975.toNat
def k0_dev35 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_645 : BitVec 32 := 1#32
  let v905 : BitVec 32 := Scalar.xori v2 c1_i32_645
  let c1_i32_724 : BitVec 32 := 1#32
  let v999 : BitVec 32 := Scalar.muli v905 c1_i32_724
  let v1000 : BitVec 32 := Scalar.addi c0_i32_725 v999
  v1000.toNat
def k0_dev36 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_645 : BitVec 32 := 1#32
  let v905 : BitVec 32 := Scalar.xori v2 c1_i32_645
  let c1_i32_750 : BitVec 32 := 1#32
  let v1024 : BitVec 32 := Scalar.muli v905 c1_i32_750
  let v1025 : BitVec 32 := Scalar.addi c0_i32_751 v1024
  v1025.toNat
def k0_off29 (d0 : Dev nD) (c0_i32_772 : BitVec 32) : Fin 2 → Nat :=
  let c1_i32_755 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v1032 : BitVec 32 := Scalar.subi c1_i32_755 v69
  let c256_i32_756 : BitVec 32 := 256#32
  let v1033 : BitVec 32 := Scalar.muli v1032 c256_i32_756
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1044 : BitVec 32 := Scalar.xori v29 c0_i32_772
  let c64_i32_775 : BitVec 32 := 64#32
  let v1047 : BitVec 32 := Scalar.muli v1044 c64_i32_775
  let v1048 : BitVec 32 := Scalar.addi v1033 v1047
  let v1049 : Index := Scalar.indexCast v1048
  let c0_776 : Index := 0#32
  ![v1049.toNat, 0]
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x16384 : Shape := ⟨2, ![768, 16384]⟩
abbrev S16384x768 : Shape := ⟨2, ![16384, 768]⟩
abbrev S2x512x64x64 : Shape := ⟨4, ![2, 512, 64, 64]⟩
abbrev S512x768 : Shape := ⟨2, ![512, 768]⟩
abbrev S512x16384 : Shape := ⟨2, ![512, 16384]⟩
abbrev S2x256x256x64 : Shape := ⟨4, ![2, 256, 256, 64]⟩
abbrev S2x512x64x4x64 : Shape := ⟨5, ![2, 512, 64, 4, 64]⟩
abbrev S2x512x256x64 : Shape := ⟨4, ![2, 512, 256, 64]⟩
abbrev S2x256x256x512 : Shape := ⟨4, ![2, 256, 256, 512]⟩
abbrev S_ : Shape := ⟨0, ![]⟩
abbrev S2x256x256 : Shape := ⟨3, ![2, 256, 256]⟩
abbrev S2x256x256x1 : Shape := ⟨4, ![2, 256, 256, 1]⟩
abbrev S2x256x64x256 : Shape := ⟨4, ![2, 256, 64, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x16384, .bf16⟩
  | .hbm, ⟨2, _⟩ => ⟨S16384x768, .bf16⟩
  | .hbm, ⟨3, _⟩ => ⟨S2x512x64x64, .bf16⟩
  | .hbm, ⟨4, _⟩ => ⟨S2x512x64x64, .bf16⟩
  | .hbm, ⟨5, _⟩ => ⟨S512x768, .bf16⟩
  | .hbm, ⟨6, _⟩ => ⟨S512x16384, .f32⟩
  | .hbm, ⟨7, _⟩ => ⟨S512x16384, .bf16⟩
  | .hbm, ⟨8, _⟩ => ⟨S2x256x256x64, .bf16⟩
  | .hbm, ⟨9, _⟩ => ⟨S2x512x64x4x64, .bf16⟩
  | .hbm, ⟨10, _⟩ => ⟨S2x512x256x64, .bf16⟩
  | .hbm, ⟨11, _⟩ => ⟨S2x512x64x4x64, .bf16⟩
  | .hbm, ⟨12, _⟩ => ⟨S2x512x256x64, .bf16⟩
  | .hbm, ⟨13, _⟩ => ⟨S2x512x256x64, .f32⟩
  | .hbm, ⟨14, _⟩ => ⟨S2x256x256x512, .f32⟩
  | .hbm, ⟨15, _⟩ => ⟨S2x256x256x512, .bf16⟩
  | .hbm, ⟨16, _⟩ => ⟨S2x256x256x512, .f32⟩
  | .hbm, ⟨17, _⟩ => ⟨S_, .f32⟩
  | .hbm, ⟨18, _⟩ => ⟨S2x256x256x512, .f32⟩
  | .hbm, ⟨19, _⟩ => ⟨S2x256x256x512, .f32⟩
  | .hbm, ⟨20, _⟩ => ⟨S_, .f32⟩
  | .hbm, ⟨21, _⟩ => ⟨S2x256x256, .f32⟩
  | .hbm, ⟨22, _⟩ => ⟨S2x256x256x1, .f32⟩
  | .hbm, ⟨23, _⟩ => ⟨S2x256x256x512, .f32⟩
  | .hbm, ⟨24, _⟩ => ⟨S2x256x256x512, .f32⟩
  | .hbm, ⟨25, _⟩ => ⟨S2x256x256x512, .f32⟩
  | .hbm, ⟨26, _⟩ => ⟨S_, .f32⟩
  | .hbm, ⟨27, _⟩ => ⟨S2x256x256, .f32⟩
  | .hbm, ⟨28, _⟩ => ⟨S2x256x256x1, .f32⟩
  | .hbm, ⟨29, _⟩ => ⟨S2x256x64x256, .f32⟩
  | .hbm, ⟨30, _⟩ => ⟨S2x256x256x64, .f32⟩
  | .hbm, ⟨31, _⟩ => ⟨S2x256x256x1, .f32⟩
  | .hbm, ⟨32, _⟩ => ⟨S2x256x256x64, .f32⟩
  | .hbm, ⟨33, _⟩ => ⟨S2x256x256x64, .f32⟩
  | .hbm, ⟨34, _⟩ => ⟨S512x16384, .f32⟩
  | .hbm, ⟨35, _⟩ => ⟨S16384x768, .f32⟩
  | .hbm, ⟨36, _⟩ => ⟨S512x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Geo.lean ====
/-
The arithmetic of the device ids and of the row offsets: which device a signal or a copy goes to and at which row
an access starts, in closed form.
-/
module

public import proofs.«01_k».proof.Proof.Gen.KernelIdeal
public import proofs.«01_k».proof.Proof.Gen.KernelIdeal.Skeleton

@[expose] public section

namespace Cert.Exch

open Idealize.ShloMosaic Cert.KernelIdeal Cert.KernelIdeal.Gen

/-! ## Peers -/

/-- The device whose id differs from `c`'s in the bits of `m`. -/
def xr (c : Dev nD) (m : Fin 32) : Dev nD := ⟨(c.val ^^^ m.val) % 32, Nat.mod_lt _ (by decide)⟩

theorem xr_xr : ∀ (c : Dev nD) (m : Fin 32), xr (xr c m) m = c := by decide +kernel
theorem xr_inj : ∀ (m : Fin 32) (c : Dev nD) (m' : Fin 32), xr c m = xr c m' → m = m' := by decide +kernel

/-- The bits flipped by exchange `k`'s partner. -/
def pm : Fin 21 → Fin 32 := ![0, 8, 16, 24, 3, 4, 7, 3, 4, 7, 8, 16, 24, 1, 1, 1, 1, 1, 1, 1, 1]
/-- The partner of `c` in exchange `k`. -/
def peer (c : Dev nD) (k : Fin 21) : Dev nD := xr c (pm k)
theorem peer_peer (c : Dev nD) (k : Fin 21) : peer (peer c k) k = c := xr_xr c _

/-- The bits flipped by the `i`th barrier signal. -/
def bm : Fin 7 → Fin 32 := ![1, 8, 16, 24, 3, 4, 7]

/-! ## The place of a device -/

/-- The place along the third axis, -/
def zc (c : Dev nD) : ℕ := c.val / 8
/-- along the second, -/
def yc (c : Dev nD) : ℕ := c.val % 8 / 2
/-- and along the first. -/
def xc (c : Dev nD) : ℕ := if c.val % 8 / 2 % 2 = 0 then c.val % 2 else 1 - c.val % 2

/-- The half of the rows that `c` keeps, and the half that it hands over. -/
def lo (c : Dev nD) : ℕ := xc c * 256
@[inherit_doc lo] def hi (c : Dev nD) : ℕ := (1 - xc c) * 256

theorem xc_le : ∀ c, xc c ≤ 1 := by decide +kernel
theorem yc_lt : ∀ c, yc c < 4 := by decide +kernel
theorem zc_lt : ∀ c, zc c < 4 := by decide +kernel
theorem xorz_lt : ∀ (c : Dev nD) (d : Fin 4), zc c ^^^ d.val < 4 := by decide +kernel
theorem xory_lt : ∀ (c : Dev nD) (d : Fin 4), yc c ^^^ d.val < 4 := by decide +kernel

/-! ## The devices that the kernel names -/

theorem dev1_eq : ∀ c, (⟨k0_dev1 c, k0_dev1_lt c⟩ : Dev nD) = xr c 1 := by decide +kernel
theorem dev2_eq : ∀ c, (⟨k0_dev2 c, k0_dev2_lt c⟩ : Dev nD) = xr c 8 := by decide +kernel
theorem dev3_eq : ∀ c, (⟨k0_dev3 c, k0_dev3_lt c⟩ : Dev nD) = xr c 16 := by decide +kernel
theorem dev4_eq : ∀ c, (⟨k0_dev4 c, k0_dev4_lt c⟩ : Dev nD) = xr c 24 := by decide +kernel
theorem dev5_eq : ∀ c, (⟨k0_dev5 c, k0_dev5_lt c⟩ : Dev nD) = xr c 3 := by decide +kernel
theorem dev6_eq : ∀ c, (⟨k0_dev6 c, k0_dev6_lt c⟩ : Dev nD) = xr c 4 := by decide +kernel
theorem dev7_eq : ∀ c, (⟨k0_dev7 c, k0_dev7_lt c⟩ : Dev nD) = xr c 7 := by decide +kernel
theorem dev8_eq : ∀ c, (⟨k0_dev8 c, k0_dev8_lt c⟩ : Dev nD) = peer c 17 := by decide +kernel
theorem dev9_eq : ∀ c, (⟨k0_dev9 c, k0_dev9_lt c⟩ : Dev nD) = peer c 18 := by decide +kernel
theorem dev10_eq : ∀ c, (⟨k0_dev10 c, k0_dev10_lt c⟩ : Dev nD) = peer c 19 := by decide +kernel
theorem dev11_eq : ∀ c, (⟨k0_dev11 c, k0_dev11_lt c⟩ : Dev nD) = peer c 20 := by decide +kernel
theorem dev12_eq : ∀ c (h : k0_cond1 c = 1#1), (⟨k0_dev12 c, k0_dev12_lt c h⟩ : Dev nD) = peer c 1 := by decide +kernel
theorem dev13_eq : ∀ c (h : k0_cond2 c = 1#1), (⟨k0_dev13 c, k0_dev13_lt c h⟩ : Dev nD) = peer c 2 := by decide +kernel
theorem dev14_eq : ∀ c (h : k0_cond3 c = 1#1), (⟨k0_dev14 c, k0_dev14_lt c h⟩ : Dev nD) = peer c 3 := by decide +kernel
theorem dev15_eq : ∀ c (h : k0_cond4 c = 1#1), (⟨k0_dev15 c, k0_dev15_lt c h⟩ : Dev nD) = peer c 1 := by decide +kernel
theorem dev16_eq : ∀ c (h : k0_cond5 c = 1#1), (⟨k0_dev16 c, k0_dev16_lt c h⟩ : Dev nD) = peer c 2 := by decide +kernel
theorem dev17_eq : ∀ c (h : k0_cond6 c = 1#1), (⟨k0_dev17 c, k0_dev17_lt c h⟩ : Dev nD) = peer c 3 := by decide +kernel
theorem dev18_eq : ∀ c (h : k0_cond7 c = 1#1), (⟨k0_dev18 c, k0_dev18_lt c h⟩ : Dev nD) = peer c 1 := by decide +kernel
theorem dev19_eq : ∀ c (h : k0_cond8 c = 1#1), (⟨k0_dev19 c, k0_dev19_lt c h⟩ : Dev nD) = peer c 2 := by decide +kernel
theorem dev20_eq : ∀ c (h : k0_cond9 c = 1#1), (⟨k0_dev20 c, k0_dev20_lt c h⟩ : Dev nD) = peer c 3 := by decide +kernel
theorem dev21_eq : ∀ c (h : k0_cond10 c = 1#1), (⟨k0_dev21 c, k0_dev21_lt c h⟩ : Dev nD) = peer c 1 := by decide +kernel
theorem dev22_eq : ∀ c (h : k0_cond11 c = 1#1), (⟨k0_dev22 c, k0_dev22_lt c h⟩ : Dev nD) = peer c 2 := by decide +kernel
theorem dev23_eq : ∀ c (h : k0_cond12 c = 1#1), (⟨k0_dev23 c, k0_dev23_lt c h⟩ : Dev nD) = peer c 3 := by decide +kernel
theorem dev24_eq : ∀ c, (⟨k0_dev24 c, k0_dev24_lt c⟩ : Dev nD) = peer c 4 := by decide +kernel
theorem dev25_eq : ∀ c, (⟨k0_dev25 c, k0_dev25_lt c⟩ : Dev nD) = peer c 5 := by decide +kernel
theorem dev26_eq : ∀ c, (⟨k0_dev26 c, k0_dev26_lt c⟩ : Dev nD) = peer c 6 := by decide +kernel
theorem dev27_eq : ∀ c, (⟨k0_dev27 c, k0_dev27_lt c⟩ : Dev nD) = peer c 7 := by decide +kernel
theorem dev28_eq : ∀ c, (⟨k0_dev28 c, k0_dev28_lt c⟩ : Dev nD) = peer c 8 := by decide +kernel
theorem dev29_eq : ∀ c, (⟨k0_dev29 c, k0_dev29_lt c⟩ : Dev nD) = peer c 9 := by decide +kernel
theorem dev30_eq : ∀ c, (⟨k0_dev30 c, k0_dev30_lt c⟩ : Dev nD) = peer c 13 := by decide +kernel
theorem dev31_eq : ∀ c, (⟨k0_dev31 c, k0_dev31_lt c⟩ : Dev nD) = peer c 10 := by decide +kernel
theorem dev32_eq : ∀ c, (⟨k0_dev32 c, k0_dev32_lt c⟩ : Dev nD) = peer c 11 := by decide +kernel
theorem dev33_eq : ∀ c, (⟨k0_dev33 c, k0_dev33_lt c⟩ : Dev nD) = peer c 12 := by decide +kernel
theorem dev34_eq : ∀ c, (⟨k0_dev34 c, k0_dev34_lt c⟩ : Dev nD) = peer c 14 := by decide +kernel
theorem dev35_eq : ∀ c, (⟨k0_dev35 c, k0_dev35_lt c⟩ : Dev nD) = peer c 15 := by decide +kernel
theorem dev36_eq : ∀ c, (⟨k0_dev36 c, k0_dev36_lt c⟩ : Dev nD) = peer c 16 := by decide +kernel

/-! ## The conditions of the staged sends -/

theorem cond1_iff : ∀ c, k0_cond1 c = 1#1 ↔ zc c ^^^ 1 = 0 := by decide +kernel
theorem cond2_iff : ∀ c, k0_cond2 c = 1#1 ↔ zc c ^^^ 2 = 0 := by decide +kernel
theorem cond3_iff : ∀ c, k0_cond3 c = 1#1 ↔ zc c ^^^ 3 = 0 := by decide +kernel
theorem cond4_iff : ∀ c, k0_cond4 c = 1#1 ↔ zc c ^^^ 1 = 1 := by decide +kernel
theorem cond5_iff : ∀ c, k0_cond5 c = 1#1 ↔ zc c ^^^ 2 = 1 := by decide +kernel
theorem cond6_iff : ∀ c, k0_cond6 c = 1#1 ↔ zc c ^^^ 3 = 1 := by decide +kernel
theorem cond7_iff : ∀ c, k0_cond7 c = 1#1 ↔ zc c ^^^ 1 = 2 := by decide +kernel
theorem cond8_iff : ∀ c, k0_cond8 c = 1#1 ↔ zc c ^^^ 2 = 2 := by decide +kernel
theorem cond9_iff : ∀ c, k0_cond9 c = 1#1 ↔ zc c ^^^ 3 = 2 := by decide +kernel
theorem cond10_iff : ∀ c, k0_cond10 c = 1#1 ↔ zc c ^^^ 1 = 3 := by decide +kernel
theorem cond11_iff : ∀ c, k0_cond11 c = 1#1 ↔ zc c ^^^ 2 = 3 := by decide +kernel
theorem cond12_iff : ∀ c, k0_cond12 c = 1#1 ↔ zc c ^^^ 3 = 3 := by decide +kernel

/-! ## Where the accesses start -/

theorem off1_eq : ∀ c, k0_off1 c = ![1 - xc c, 0, 0] := by decide +kernel
theorem off2_eq : ∀ c, k0_off2 c = ![1 - xc c, 0, 0, 0] := by decide +kernel
theorem off3_eq : ∀ c, k0_off3 c = ![1 - xc c, 1, 0, 0] := by decide +kernel
theorem off4_eq : ∀ c, k0_off4 c = ![hi c, 0] := by decide +kernel
theorem off5_0_eq : ∀ c, k0_off5 c 0#32 = ![hi c + 0 * 64, 0] := by decide +kernel
theorem off5_64_eq : ∀ c, k0_off5 c 64#32 = ![hi c + 1 * 64, 0] := by decide +kernel
theorem off5_128_eq : ∀ c, k0_off5 c 128#32 = ![hi c + 2 * 64, 0] := by decide +kernel
theorem off5_192_eq : ∀ c, k0_off5 c 192#32 = ![hi c + 3 * 64, 0] := by decide +kernel
theorem off6_eq : ∀ c, k0_off6 c = ![xc c, 0, 0] := by decide +kernel
theorem off7_eq : ∀ c, k0_off7 c = ![xc c, 0, 0, 0] := by decide +kernel
theorem off8_eq : ∀ c, k0_off8 c = ![xc c, 1, 0, 0] := by decide +kernel
theorem off9_eq : ∀ c, k0_off9 c = ![lo c, 0] := by decide +kernel
theorem off10_0_eq : ∀ c, k0_off10 c 0#32 = ![lo c + 0 * 64, 0] := by decide +kernel
theorem off10_64_eq : ∀ c, k0_off10 c 64#32 = ![lo c + 1 * 64, 0] := by decide +kernel
theorem off10_128_eq : ∀ c, k0_off10 c 128#32 = ![lo c + 2 * 64, 0] := by decide +kernel
theorem off10_192_eq : ∀ c, k0_off10 c 192#32 = ![lo c + 3 * 64, 0] := by decide +kernel
theorem off11_eq : ∀ c, k0_off11 c = ![lo c + (zc c ^^^ 1) * 64, 0] := by decide +kernel
theorem off12_eq : ∀ c, k0_off12 c = ![lo c + (zc c ^^^ 2) * 64, 0] := by decide +kernel
theorem off13_eq : ∀ c, k0_off13 c = ![lo c + (zc c ^^^ 3) * 64, 0] := by decide +kernel
theorem off14_eq : ∀ c, k0_off14 c = ![lo c + (zc c ^^^ 1) * 64, 0] := by decide +kernel
theorem off15_eq : ∀ c, k0_off15 c = ![lo c + (zc c ^^^ 2) * 64, 0] := by decide +kernel
theorem off16_eq : ∀ c, k0_off16 c = ![lo c + (zc c ^^^ 3) * 64, 0] := by decide +kernel
theorem off17_eq : ∀ c, k0_off17 c = ![lo c + (zc c ^^^ 1) * 64, 0] := by decide +kernel
theorem off18_eq : ∀ c, k0_off18 c = ![lo c + (zc c ^^^ 2) * 64, 0] := by decide +kernel
theorem off19_eq : ∀ c, k0_off19 c = ![lo c + (zc c ^^^ 3) * 64, 0] := by decide +kernel
theorem off20_eq : ∀ c, k0_off20 c = ![lo c + (zc c ^^^ 1) * 64, 0] := by decide +kernel
theorem off21_eq : ∀ c, k0_off21 c = ![lo c + (zc c ^^^ 2) * 64, 0] := by decide +kernel
theorem off22_eq : ∀ c, k0_off22 c = ![lo c + (zc c ^^^ 3) * 64, 0] := by decide +kernel
theorem off23_eq : ∀ c, k0_off23 c = ![lo c + zc c * 64, 0] := by decide +kernel
theorem off24_1_eq : ∀ c, k0_off24 c 1#32 = ![lo c + zc c * 64 + (yc c ^^^ 1) * 16, 0] := by decide +kernel
theorem off24_2_eq : ∀ c, k0_off24 c 2#32 = ![lo c + zc c * 64 + (yc c ^^^ 2) * 16, 0] := by decide +kernel
theorem off24_3_eq : ∀ c, k0_off24 c 3#32 = ![lo c + zc c * 64 + (yc c ^^^ 3) * 16, 0] := by decide +kernel
theorem off25_eq : ∀ c, k0_off25 c = ![lo c + zc c * 64 + yc c * 16, 0] := by decide +kernel
theorem off26_1_eq : ∀ c, k0_off26 c 1#32 = ![lo c + zc c * 64 + (yc c ^^^ 1) * 16, 0] := by decide +kernel
theorem off26_2_eq : ∀ c, k0_off26 c 2#32 = ![lo c + zc c * 64 + (yc c ^^^ 2) * 16, 0] := by decide +kernel
theorem off26_3_eq : ∀ c, k0_off26 c 3#32 = ![lo c + zc c * 64 + (yc c ^^^ 3) * 16, 0] := by decide +kernel
theorem off27_eq : ∀ c, k0_off27 c = ![lo c + zc c * 64, 0] := by decide +kernel
theorem off28_1_eq : ∀ c, k0_off28 c 1#32 = ![lo c + (zc c ^^^ 1) * 64, 0] := by decide +kernel
theorem off28_2_eq : ∀ c, k0_off28 c 2#32 = ![lo c + (zc c ^^^ 2) * 64, 0] := by decide +kernel
theorem off28_3_eq : ∀ c, k0_off28 c 3#32 = ![lo c + (zc c ^^^ 3) * 64, 0] := by decide +kernel
theorem off29_0_eq : ∀ c, k0_off29 c 0#32 = ![hi c + (zc c ^^^ 0) * 64, 0] := by decide +kernel
theorem off29_1_eq : ∀ c, k0_off29 c 1#32 = ![hi c + (zc c ^^^ 1) * 64, 0] := by decide +kernel
theorem off29_2_eq : ∀ c, k0_off29 c 2#32 = ![hi c + (zc c ^^^ 2) * 64, 0] := by decide +kernel
theorem off29_3_eq : ∀ c, k0_off29 c 3#32 = ![hi c + (zc c ^^^ 3) * 64, 0] := by decide +kernel

end Cert.Exch
-- ==== Proof.Vals.lean ====
/-
The contents that the exchanges pass around, as plain functions of the devices' operands: rows read from and written
to the accumulator, the partial result of a device, and the accumulator after every step of the reduction and of the
broadcast back.
-/
module

public import proofs.«01_k».proof.Proof.Geo
public import Idealize.ShloMosaic.Lib.ValueIdx

@[expose] public section

noncomputable section

namespace Cert.Exch

open Idealize.ShloMosaic Cert.KernelIdeal Cert.KernelIdeal.Gen
open Idealize.ShloMosaic.ValueIdx

variable {F : FTy → Type} [FloatOps F]

/-! ## Rows of the accumulator -/

/-- The accumulator's contents. -/
abbrev Acc (F : FTy → Type) : Type := S512x768.Idx → Elt F .f32

/-- The `n` rows of `g` from row `o`. -/
def rd (n : ℕ) (g : Acc F) (o : ℕ) : (⟨2, ![n, 768]⟩ : Shape).Idx → Elt F .f32 :=
  fun i => g (ix2 ⟨(o + (i 0).val) % 512, Nat.mod_lt _ (by decide)⟩ (i 1))

/-- `g` with its `n` rows from row `o` replaced by `w`. -/
def wr (n : ℕ) (g : Acc F) (o : ℕ) (w : (⟨2, ![n, 768]⟩ : Shape).Idx → Elt F .f32) : Acc F :=
  fun i => if h : o ≤ (i 0).val ∧ (i 0).val < o + n then w (ix2 ⟨(i 0).val - o, by omega⟩ (i 1)) else g i

/-! ## A device's partial result -/

/-- A device's operands as the kernel stages them. -/
structure Inp (F : FTy → Type) where
  x : S2x256x768.Idx → Elt F .bf16
  wq : S768x512.Idx → Elt F .bf16
  wo : S512x768.Idx → Elt F .bf16
  k : S2x2x512x64.Idx → Elt F .bf16
  v : S2x2x512x64.Idx → Elt F .bf16

/-- Batch `b` of the activations, and head `h` of batch `b` of the keys or values. -/
def xb (x : S2x256x768.Idx → Elt F .bf16) (b : ℕ) : S1x256x768.Idx → Elt F .bf16 :=
  fun i => x (ix3 ⟨b % 2, Nat.mod_lt _ (by decide)⟩ (i 1) (i 2))
@[inherit_doc xb] def kb (k : S2x2x512x64.Idx → Elt F .bf16) (b h : ℕ) : S1x1x512x64.Idx → Elt F .bf16 :=
  fun i => k (ix4 ⟨b % 2, Nat.mod_lt _ (by decide)⟩ ⟨h % 2, Nat.mod_lt _ (by decide)⟩ (i 2) (i 3))

/-- The partial result of one batch, by the first batch's operations. -/
def blkA (wq : FVec F S768x512 .bf16) (wo : FVec F S512x768 .bf16) (x : Vec F S1x256x768 .bf16) (k0 v0 k1 v1 : Vec F S1x1x512x64 .bf16) :
    FVec F S256x768 .f32 :=
  k0_pay19 wo (k0_pay5 wq x k0 v0) (k0_pay8 (k0_pay6 wq x k0) (k0_pay7 wq x k0) v0) (k0_pay9 (k0_pay4 wq x) k0 v0)
    (k0_pay12 (k0_pay10 (k0_pay4 wq x) k0) (k0_pay11 (k0_pay4 wq x) k0) v0) (k0_pay13 (k0_pay4 wq x) k1 v1)
    (k0_pay16 (k0_pay14 (k0_pay4 wq x)) (k0_pay15 k1) (constant S256x512 .f32 0x00000000#32) v1) (k0_pay17 (k0_pay4 wq x) k1 v1)
    (k0_pay18 (k0_pay4 wq x)) k1 v1

/-- The partial result of one batch, by the second batch's operations. -/
def blkB (wq : FVec F S768x512 .bf16) (wo : FVec F S512x768 .bf16) (x : Vec F S1x256x768 .bf16) (k0 v0 k1 v1 : Vec F S1x1x512x64 .bf16) :
    FVec F S256x768 .f32 :=
  k0_pay42 wo (k0_pay27 (k0_pay25 wq x) (k0_pay26 k0) (constant S256x512 .f32 0x00000000#32) v0) (k0_pay28 (k0_pay24 wq x) k0 v0)
    (k0_pay30 (k0_pay29 (k0_pay24 wq x)) k0 v0)
    (k0_pay35 (k0_pay32 (k0_pay24 wq x) k0) (k0_pay33 v0) (k0_pay34 (k0_pay24 wq x) k0) (constant S256x64 .f32 0x00000000#32))
    (k0_pay36 (k0_pay24 wq x) k1 v1) (k0_pay39 (k0_pay37 (k0_pay24 wq x) k1) (k0_pay38 (k0_pay24 wq x) k1) v1)
    (k0_pay40 (k0_pay24 wq x) k1 v1) (k0_pay41 (k0_pay24 wq x) k1) v1

/-- The two are one function. -/
theorem blkB_eq (wq : FVec F S768x512 .bf16) (wo : FVec F S512x768 .bf16) (x : Vec F S1x256x768 .bf16) (k0 v0 k1 v1 : Vec F S1x1x512x64 .bf16) :
    blkB wq wo x k0 v0 k1 v1 = blkA wq wo x k0 v0 k1 v1 := rfl

/-- The partial result of batch `b`. -/
def blk (I : Inp F) (b : ℕ) : FVec F S256x768 .f32 :=
  blkA (k0_pay2 I.wq) (k0_pay3 I.wo) (xb I.x b) (kb I.k b 0) (kb I.v b 0) (kb I.k b 1) (kb I.v b 1)

variable (I : Dev nD → Inp F)

/-! ## The accumulator, step by step -/

/-- The partial result of both batches. -/
def gP (c : Dev nD) : Acc F := fun i => blk (I c) ((i 0).val / 256) (ix2 ⟨(i 0).val % 256, Nat.mod_lt _ (by decide)⟩ (i 1))

/-- What `c` sends along the first axis: rows of the half that it hands over. -/
def sX (c : Dev nD) (j : ℕ) : FVec F S64x768 .bf16 := k0_pay20 (rd 64 (gP I c) (hi c + j * 64))

/-- The accumulator after `j` of the first axis' landed blocks were added. -/
def gA (c : Dev nD) : ℕ → Acc F
  | 0 => gP I c
  | j + 1 => wr 64 (gA c j) (lo c + j * 64) (k0_pay43 (rd 64 (gA c j) (lo c + j * 64)) (sX I (xr c 1) j))

/-- What `c` sends `d` places along the third axis. -/
def sZ (c : Dev nD) (d : ℕ) : FVec F S64x768 .bf16 :=
  k0_pay44 (rd 64 (gA I c ((zc c ^^^ d) + 1)) (lo c + (zc c ^^^ d) * 64))

/-- The accumulator after `d` of the third axis' landed blocks were added. -/
def gB (c : Dev nD) : ℕ → Acc F
  | 0 => gA I c 4
  | d + 1 => wr 64 (gB c d) (lo c + zc c * 64)
      (k0_pay59 (rd 64 (gB c d) (lo c + zc c * 64)) (sZ I (xr c (Fin.ofNat 32 (8 * (d + 1)))) (d + 1)))

/-- The bits of the second axis' partners. -/
def ym : ℕ → Fin 32
  | 1 => 3
  | 2 => 4
  | _ => 7

/-- What `c` sends `d` places along the second axis. -/
def sY (c : Dev nD) (d : ℕ) : FVec F S16x768 .bf16 := k0_pay62 (rd 16 (gB I c 3) (lo c + zc c * 64 + (yc c ^^^ d) * 16))

/-- The accumulator after the second axis' landed blocks were added. -/
def gC (c : Dev nD) : Acc F :=
  wr 16 (gB I c 3) (lo c + zc c * 64 + yc c * 16)
    (k0_pay66 (rd 16 (gB I c 3) (lo c + zc c * 64 + yc c * 16)) (sY I (xr c (ym 1)) 1) (sY I (xr c (ym 2)) 2) (sY I (xr c (ym 3)) 3))

/-- The summed rows, handed back along the second axis. -/
def sU (c : Dev nD) : FVec F S16x768 .bf16 := k0_pay67 (rd 16 (gC I c) (lo c + zc c * 64 + yc c * 16))

/-- The accumulator after `d` of those blocks were copied in. -/
def gD (c : Dev nD) : ℕ → Acc F
  | 0 => gC I c
  | d + 1 => wr 16 (gD c d) (lo c + zc c * 64 + (yc c ^^^ (d + 1)) * 16) (k0_pay68 (sU I (xr c (ym (d + 1)))))

/-- The summed rows, handed back along the third axis and along the first. -/
def sV (c : Dev nD) : FVec F S64x768 .bf16 := k0_pay71 (rd 64 (gD I c 3) (lo c + zc c * 64))

/-- The accumulator after `d` of the third axis' blocks were copied in. -/
def gE (c : Dev nD) : ℕ → Acc F
  | 0 => gD I c 3
  | d + 1 => wr 64 (gE c d) (lo c + (zc c ^^^ (d + 1)) * 64) (k0_pay73 (sV I (xr c (Fin.ofNat 32 (8 * (d + 1))))))

/-- What comes along the first axis: the partner's rows, and the rows that the partner was handed. -/
def rX (c : Dev nD) : ℕ → FVec F S64x768 .bf16
  | 0 => sV I (xr c 1)
  | d + 1 => sV I (xr (xr c 1) (Fin.ofNat 32 (8 * (d + 1))))

/-- The accumulator after `d` of those blocks were copied in. -/
def gF (c : Dev nD) : ℕ → Acc F
  | 0 => gE I c 3
  | d + 1 => wr 64 (gF c d) (hi c + (zc c ^^^ d) * 64) (k0_pay76 (rX I c d))

/-! ## What every exchange carries -/

/-- The rows of exchange `k`'s slot: where they start and how many they are. -/
def r0 : Fin 21 → ℕ := ![0, 16, 80, 144, 208, 224, 240, 256, 272, 288, 304, 368, 432, 496, 560, 624, 688, 752, 816, 880, 944]
@[inherit_doc r0] def nr : Fin 21 → ℕ := ![16, 64, 64, 64, 16, 16, 16, 16, 16, 16, 64, 64, 64, 64, 64, 64, 64, 64, 64, 64, 64]

theorem rk_inb : ∀ (k : Fin 21) (a : Fin 2), ![r0 k, 0] a + ![nr k, 768] a ≤ S1008x768.size a := by decide +kernel

/-- The slot as a rectangle of the scratch buffer. -/
abbrev rk (k : Fin 21) : Rect S1008x768 := Rect.unit (s := S1008x768) ![r0 k, 0] ![nr k, 768] (rk_inb k)

/-- The contents that `c` sends in exchange `k`. -/
def sendVal (c : Dev nD) : (k : Fin 21) → (rk k).shape.Idx → Elt F .bf16
  | ⟨0, _⟩ => sU I c
  | ⟨1, _⟩ => sZ I c 1
  | ⟨2, _⟩ => sZ I c 2
  | ⟨3, _⟩ => sZ I c 3
  | ⟨4, _⟩ => sY I c 1
  | ⟨5, _⟩ => sY I c 2
  | ⟨6, _⟩ => sY I c 3
  | ⟨7, _⟩ => sU I c
  | ⟨8, _⟩ => sU I c
  | ⟨9, _⟩ => sU I c
  | ⟨10, _⟩ => sV I c
  | ⟨11, _⟩ => sV I c
  | ⟨12, _⟩ => sV I c
  | ⟨13, _⟩ => sV I c
  | ⟨14, _⟩ => sV I (xr c 8)
  | ⟨15, _⟩ => sV I (xr c 16)
  | ⟨16, _⟩ => sV I (xr c 24)
  | ⟨17, _⟩ => sX I c 0
  | ⟨18, _⟩ => sX I c 1
  | ⟨19, _⟩ => sX I c 2
  | ⟨20, _⟩ => sX I c 3
  | ⟨n + 21, h⟩ => absurd h (by omega)

/-- The contents that land on `c` in exchange `k`. -/
def recvVal (c : Dev nD) (k : Fin 21) : (rk k).shape.Idx → Elt F .bf16 := sendVal I (peer c k) k

example (c : Dev nD) : recvVal I c 17 = sX I (xr c 1) 0 := rfl
example (c : Dev nD) : recvVal I c 2 = sZ I (xr c 16) 2 := rfl
example (c : Dev nD) : recvVal I c 15 = rX I c 2 := rfl

end Cert.Exch
-- ==== Proof.Sched.lean ====
/-
The protocol: the semaphore cells, the slots of the two scratch buffers, what every duty hands over, what every device
owes, and the order of the waits.
-/
module

public import proofs.«01_k».proof.Proof.Vals
public import proofs.«01_k».proof.Proof.Gen.KernelIdeal.Launch
public import Idealize.ShloMosaic.Lib.Pipeline.TalkSites
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv mem_L' mayWait_of)
open Idealize.ShloMosaic.TalkSites (Fam)

variable {F : FTy → Type} [FloatOps F]

/-! ## The ghost state -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The cells -/

/-- The barrier semaphore, the send semaphore of exchange `k`, its receive semaphore. -/
abbrev bS : Sem sig := sig.barrier 0 rfl
@[inherit_doc bS] def sS (k : Fin 21) : DmaSem sig := ⟨6 + k.val, by have := k.isLt; exact show 6 + k.val < 48 by omega⟩
@[inherit_doc bS] def rS (k : Fin 21) : DmaSem sig := ⟨27 + k.val, by have := k.isLt; exact show 27 + k.val < 48 by omega⟩

/-- Their cells on device `c`. -/
abbrev bC (c : Dev nD) : GSem nD τ sig := ((c : Thread nD τ), .reg bS)
@[inherit_doc bC] abbrev sC (c : Dev nD) (k : Fin 21) : GSem nD τ sig := ((c : Thread nD τ), .dma (sS k))
@[inherit_doc bC] abbrev rC (c : Dev nD) (k : Fin 21) : GSem nD τ sig := ((c : Thread nD τ), .dma (rS k))

/-- Which exchange a transfer semaphore serves, and on which side (`true`: the send side). -/
def dk (s : DmaSem sig) : Option (Bool × Fin 21) :=
  if 27 ≤ s.val then some (false, Fin.ofNat 21 (s.val - 27)) else if 6 ≤ s.val then some (true, Fin.ofNat 21 (s.val - 6)) else none

theorem dk_s : ∀ k, dk (sS k) = some (true, k) := by decide +kernel
theorem dk_r : ∀ k, dk (rS k) = some (false, k) := by decide +kernel

/-! ## The slots -/

abbrev sM : Memref sig .tc .vmem S1008x768 .bf16 := Memref.whole cc0_scratch0
abbrev rM : Memref sig .tc .vmem S1008x768 .bf16 := Memref.whole cc0_scratch1

/-- Exchange `k`'s slot in the sending and in the receiving buffer. -/
def slS (k : Fin 21) : Memref sig .tc .vmem (rk k).shape .bf16 := sM.slice (rk k) (fun _ => rfl)
@[inherit_doc slS] def slR (k : Fin 21) : Memref sig .tc .vmem (rk k).shape .bf16 := rM.slice (rk k) (fun _ => rfl)

/-- Where exchange `k` reads. -/
def srcM : (k : Fin 21) → Memref sig .tc .vmem (rk k).shape .bf16
  | ⟨8, _⟩ => slS 7
  | ⟨9, _⟩ => slS 7
  | ⟨11, _⟩ => slS 10
  | ⟨12, _⟩ => slS 10
  | ⟨14, _⟩ => slR 10
  | ⟨15, _⟩ => slR 11
  | ⟨16, _⟩ => slR 12
  | k => slS k

/-- At which share it reads. -/
def qs : Fin 21 → PosShare TreeShare
  | ⟨7, _⟩ => fullShare.left
  | ⟨8, _⟩ => fullShare.right.left
  | ⟨9, _⟩ => fullShare.right.right
  | ⟨10, _⟩ => fullShare.left
  | ⟨11, _⟩ => fullShare.right.left
  | ⟨12, _⟩ => fullShare.right.right
  | _ => fullShare

/-- The credit of exchange `k`. -/
def amt (k : Fin 21) : ℕ := (slR k).view.dmaCredit

theorem amt_pos (k : Fin 21) : 0 < amt k := View.dmaCredit_pos _ (by revert k; decide +kernel)

/-- The level of exchange `k`'s waits. -/
def kl : Fin 21 → ℕ := ![2, 3, 3, 3, 4, 4, 4, 5, 5, 5, 6, 6, 6, 6, 7, 7, 7, 2, 2, 2, 2]

/-! ## The schedule -/

variable (I : Dev nD → Inp F)

/-- What `d` hands the device that will write to its receive slot `k`. -/
def free (d : Dev nD) (k : Fin 21) : sProp 𝕄 :=
  iprop((∃ X, owns (d : Thread nD τ) (slR k) fullShare X) ∗ reached ER (rC d k) 0)

instance free_storable (d : Dev nD) (k : Fin 21) : BI.Storable (upEmb : UEmb _ 𝕄) (free (F := F) d k) := by unfold free; infer_instance

/-- The exchanges in which `e` writes to `d`. -/
def give (e d : Dev nD) : Finset (Fin 21) := Finset.univ.filter fun k => k ≠ 0 ∧ peer e k = d

/-- What `d`'s signal to `e` hands over. -/
def barPay (e d : Dev nD) : sProp 𝕄 := bigSep (give e d) fun k => free d k

instance barPay_storable (e d : Dev nD) : BI.Storable (upEmb : UEmb _ 𝕄) (barPay (F := F) e d) := by unfold barPay; infer_instance

/-- The devices that signal `c`. -/
def nbrs (c : Dev nD) : Finset (Dev nD) := Finset.univ.image fun i => xr c (bm i)

/-- The duties at a transfer semaphore. -/
def xDut (c : Dev nD) : Option (Bool × Fin 21) → Finset (Dev nD)
  | some (true, k) => if k = 0 then ∅ else {c}
  | some (false, k) => if k = 0 then ∅ else {peer c k}
  | none => ∅

/-- The credit at a transfer semaphore. -/
def xAmt : Option (Bool × Fin 21) → ℕ
  | some (_, k) => amt k
  | none => 1

/-- What a transfer hands over: its source at the sender's side, its destination at the receiver's. -/
def xPay (c : Dev nD) : Option (Bool × Fin 21) → sProp 𝕄
  | some (true, k) => owns (c : Thread nD τ) (srcM k) (qs k) (sendVal I c k)
  | some (false, k) => owns (c : Thread nD τ) (slR k) fullShare (recvVal I c k)
  | none => iprop(emp)

instance xPay_storable (c : Dev nD) (o : Option (Bool × Fin 21)) : BI.Storable (upEmb : UEmb _ 𝕄) (xPay I c o) := by
  match o with
  | some (true, k) => unfold xPay; infer_instance
  | some (false, k) => unfold xPay; infer_instance
  | none => unfold xPay; infer_instance

def sched : Rounds.Schedule (GSem nD τ sig) (Dev nD) 𝕄 where
  duties g r := if r = 0 ∧ g.1.2 = .tc then (match g.2 with
    | .reg _ => nbrs g.1.1
    | .dma s => xDut g.1.1 (dk s)) else ∅
  unitless _ := False
  amount g _ _ := match g.2 with
    | .reg _ => 1
    | .dma s => xAmt (dk s)
  payload g _ d := match g.2 with
    | .reg _ => barPay g.1.1 d
    | .dma s => xPay I g.1.1 (dk s)
  amount_pos g _ _ _ := by
    rcases g with ⟨t, s | s⟩
    · exact Nat.one_pos
    · show 0 < xAmt (dk s)
      rcases dk s with _ | ⟨b, k⟩
      · exact Nat.one_pos
      · exact amt_pos k

instance sched_storable (g : GSem nD τ sig) (r : ℕ) (d : Dev nD) :
    BI.Storable (upEmb : UEmb _ 𝕄) ((sched I).payload g r d) := by
  rcases g with ⟨t, s | s⟩
  · show BI.Storable upEmb (barPay t.1 d); infer_instance
  · show BI.Storable upEmb (xPay I t.1 (dk s)); infer_instance

section Tables
variable (c d : Dev nD) (k : Fin 21)

theorem duties_b : (sched I).duties (bC c) 0 = nbrs c := by dsimp only [sched]; rw [if_pos ⟨rfl, rfl⟩]
theorem duties_dma (s : DmaSem sig) : (sched I).duties ((c : Thread nD τ), .dma s) 0 = xDut c (dk s) := by
  dsimp only [sched]; rw [if_pos ⟨rfl, rfl⟩]
theorem duties_s (hk : k ≠ 0) : (sched I).duties (sC c k) 0 = {c} := by
  rw [duties_dma, dk_s]; exact if_neg hk
theorem duties_r (hk : k ≠ 0) : (sched I).duties (rC c k) 0 = {peer c k} := by
  rw [duties_dma, dk_r]; exact if_neg hk
theorem duties_later (g : GSem nD τ sig) (r : ℕ) (hr : 1 ≤ r) : (sched I).duties g r = ∅ := if_neg fun h => by omega
theorem duties_s0 (r : ℕ) : (sched I).duties (sC c 0) r = ∅ := by
  dsimp only [sched]; rw [dk_s]; exact ite_self _
theorem duties_r0 (r : ℕ) : (sched I).duties (rC c 0) r = ∅ := by
  dsimp only [sched]; rw [dk_r]; exact ite_self _

theorem amount_b : (sched I).amount (bC c) 0 d = 1 := rfl
theorem amount_s : (sched I).amount (sC c k) 0 d = amt k := by show xAmt (dk (sS k)) = _; rw [dk_s]; rfl
theorem amount_r : (sched I).amount (rC c k) 0 d = amt k := by show xAmt (dk (rS k)) = _; rw [dk_r]; rfl

theorem nbrs_card : ∀ c, (nbrs c).card = 7 := by decide +kernel

theorem expect_b : (sched I).expect (bC c) 0 = 7 := by
  unfold Schedule.expect Schedule.amountOf
  rw [duties_b, Finset.sum_congr rfl fun d _ => amount_b I c d, Finset.sum_const, nbrs_card]; rfl
theorem expect_s (hk : k ≠ 0) : (sched I).expect (sC c k) 0 = amt k := by
  unfold Schedule.expect Schedule.amountOf; rw [duties_s I c k hk, Finset.sum_singleton, amount_s]
theorem expect_r (hk : k ≠ 0) : (sched I).expect (rC c k) 0 = amt k := by
  unfold Schedule.expect Schedule.amountOf; rw [duties_r I c k hk, Finset.sum_singleton, amount_r]

theorem payload_b : (sched I).payload (bC c) 0 d = barPay c d := rfl
theorem payload_s : (sched I).payload (sC c k) 0 d = owns (c : Thread nD τ) (srcM k) (qs k) (sendVal I c k) := by
  show xPay I c (dk (sS k)) = _; rw [dk_s]; rfl
theorem payload_r : (sched I).payload (rC c k) 0 d = owns (c : Thread nD τ) (slR k) fullShare (recvVal I c k) := by
  show xPay I c (dk (rS k)) = _; rw [dk_r]; rfl

end Tables

/-! ## What a device owes -/

/-- The landings that `c` owes for the exchanges in `S`. -/
def dueS (c : Dev nD) (S : Finset (Fin 21)) : CellTallies nD τ sig ℕ := ∑ k ∈ S, tallyAt (rC (peer c k) k) (kl k) (amt k)
/-- The signals that `c` owes. -/
def dueB (c : Dev nD) (T : Finset (Fin 7)) : CellTallies nD τ sig ℕ := ∑ i ∈ T, tallyAt (bC (xr c (bm i))) 1 1
/-- All that `c` owes at the kernel's entry. -/
def due0 (c : Dev nD) : CellTallies nD τ sig ℕ := dueS c (Finset.univ.erase 0) + dueB c Finset.univ

theorem dueS_erase (c : Dev nD) {S : Finset (Fin 21)} {k : Fin 21} (hk : k ∈ S) :
    dueS c S = dueS c (S.erase k) + tallyAt (rC (peer c k) k) (kl k) (amt k) := (Finset.sum_erase_add S _ hk).symm
theorem dueB_erase (c : Dev nD) {T : Finset (Fin 7)} {i : Fin 7} (hi : i ∈ T) :
    dueB c T = dueB c (T.erase i) + tallyAt (bC (xr c (bm i))) 1 1 := (Finset.sum_erase_add T _ hi).symm

theorem sum_pos {ι : Type} [DecidableEq ι] (S : Finset ι) (f : ι → CellTallies nD τ sig ℕ) {g : GSem nD τ sig} {i : ℕ}
    (h : 0 < (∑ k ∈ S, f k) g i) : ∃ k ∈ S, 0 < f k g i := by
  induction S using Finset.induction_on with
  | empty => rw [Finset.sum_empty] at h; exact absurd h (Nat.lt_irrefl 0)
  | insert a S ha ih =>
    rw [Finset.sum_insert ha, Pi.add_apply, Finsupp.add_apply] at h
    rcases Nat.add_pos_iff_pos_or_pos.mp h with h | h
    · exact ⟨a, Finset.mem_insert_self _ _, h⟩
    · obtain ⟨k, hk, h⟩ := ih h; exact ⟨k, Finset.mem_insert_of_mem hk, h⟩

theorem dueS_pos {c : Dev nD} {S : Finset (Fin 21)} {g : GSem nD τ sig} {i : ℕ} (h : 0 < dueS c S g i) :
    ∃ k ∈ S, g = rC (peer c k) k ∧ i = kl k := by
  obtain ⟨k, hk, h⟩ := sum_pos S _ h
  exact ⟨k, hk, Pipeline.tallyAt_pos h⟩
theorem dueB_pos {c : Dev nD} {T : Finset (Fin 7)} {g : GSem nD τ sig} {i : ℕ} (h : 0 < dueB c T g i) :
    ∃ j, g = bC (xr c (bm j)) ∧ i = 1 := by
  obtain ⟨k, hk, h⟩ := sum_pos T _ h
  exact ⟨k, Pipeline.tallyAt_pos h⟩

theorem kl_lt : ∀ k, 1 < kl k ∧ kl k < 8 := by decide +kernel

/-- A wait at level `i` may be made while the landings of `S` are owed, each at a level above. -/
theorem mayWaitS (c : Dev nD) (sm : SemLoc sig) (i : ℕ) (hi : i < 8) (S : Finset (Fin 21)) (hS : ∀ k ∈ S, i < kl k) :
    (levAts (L 8) lv : sProp 𝕄) ⊢ MayWait (c : Thread nD τ) sm i (dueS c S) :=
  mayWait_of hi c sm _ fun g k h => by
    obtain ⟨k', hk', rfl, rfl⟩ := dueS_pos h
    exact ⟨mem_L' rfl (kl_lt k').2, hS k' hk'⟩

/-- A staging wait, at level 0, may be made while everything is owed. -/
theorem mayWait0 (c : Dev nD) (sm : SemLoc sig) :
    (levAts (L 8) lv : sProp 𝕄) ⊢ MayWait (c : Thread nD τ) sm 0 (due0 c) :=
  mayWait_of (by decide) c sm _ fun g k h => by
    unfold due0 at h
    rw [Pi.add_apply, Finsupp.add_apply] at h
    rcases Nat.add_pos_iff_pos_or_pos.mp h with h | h
    · obtain ⟨k', hk', rfl, rfl⟩ := dueS_pos h
      exact ⟨mem_L' rfl (kl_lt k').2, by have := (kl_lt k').1; omega⟩
    · obtain ⟨j, rfl, rfl⟩ := dueB_pos h
      exact ⟨mem_L' rfl (by decide), by decide⟩

/-! ## The cells and tokens of the launch -/

/-- The transfer semaphores. -/
def dorm : Finset (SemLoc sig) := Finset.univ.image fun p : Bool × Fin 21 => SemLoc.dma (if p.1 then sS p.2 else rS p.2)

theorem mem_dorm_s (k : Fin 21) : (SemLoc.dma (sS k) : SemLoc sig) ∈ dorm := Finset.mem_image.mpr ⟨(true, k), Finset.mem_univ _, rfl⟩
theorem mem_dorm_r (k : Fin 21) : (SemLoc.dma (rS k) : SemLoc sig) ∈ dorm := Finset.mem_image.mpr ⟨(false, k), Finset.mem_univ _, rfl⟩

/-- The duties that `c` pays: signal `i`, exchange `k`'s read-out, exchange `k`'s landing. -/
def tokE (c : Dev nD) : Fin 7 ⊕ Fin 21 ⊕ Fin 21 → GSem nD τ sig × ℕ × Dev nD
  | .inl i => (bC (xr c (bm i)), 0, c)
  | .inr (.inl k) => (sC c k, 0, c)
  | .inr (.inr k) => (rC (peer c k) k, 0, c)

theorem bm_inj : Function.Injective bm := by decide +kernel

theorem sS_inj {k k' : Fin 21} (h : sS k = sS k') : k = k' := by
  have := (dk_s k).symm.trans ((congrArg dk h).trans (dk_s k')); simpa using this
theorem rS_inj {k k' : Fin 21} (h : rS k = rS k') : k = k' := by
  have := (dk_r k).symm.trans ((congrArg dk h).trans (dk_r k')); simpa using this
theorem sS_ne_rS {k k' : Fin 21} : sS k ≠ rS k' := fun h => by
  have := (dk_s k).symm.trans ((congrArg dk h).trans (dk_r k')); simp at this

theorem tokE_inj (c : Dev nD) : Function.Injective (tokE c) := by
  rintro (i | k | k) (i' | k' | k') h
  · have h1 : xr c (bm i) = xr c (bm i') := congrArg (fun x => x.1.1.1) h
    exact congrArg Sum.inl (bm_inj (xr_inj _ _ _ h1))
  · have h2 : (SemLoc.reg bS : SemLoc sig) = .dma (sS k') := congrArg (fun x => x.1.2) h
    cases h2
  · have h2 : (SemLoc.reg bS : SemLoc sig) = .dma (rS k') := congrArg (fun x => x.1.2) h
    cases h2
  · have h2 : (SemLoc.dma (sS k) : SemLoc sig) = .reg bS := congrArg (fun x => x.1.2) h
    cases h2
  · have h2 : (SemLoc.dma (sS k) : SemLoc sig) = .dma (sS k') := congrArg (fun x => x.1.2) h
    rw [sS_inj (SemLoc.dma.inj h2)]
  · have h2 : (SemLoc.dma (sS k) : SemLoc sig) = .dma (rS k') := congrArg (fun x => x.1.2) h
    exact absurd (SemLoc.dma.inj h2) sS_ne_rS
  · have h2 : (SemLoc.dma (rS k) : SemLoc sig) = .reg bS := congrArg (fun x => x.1.2) h
    cases h2
  · have h2 : (SemLoc.dma (rS k) : SemLoc sig) = .dma (sS k') := congrArg (fun x => x.1.2) h
    exact absurd (SemLoc.dma.inj h2).symm sS_ne_rS
  · have h2 : (SemLoc.dma (rS k) : SemLoc sig) = .dma (rS k') := congrArg (fun x => x.1.2) h
    rw [rS_inj (SemLoc.dma.inj h2)]

def fam : Fam nD τ sig (Dev nD) 1 where
  bar := .reg bS
  dorm _ := dorm
  toks c _ := Finset.univ.map ⟨tokE c, tokE_inj c⟩
  semKey _ := 0
  hsem j _ _ := (Subsingleton.elim _ _)
  hbar _ h := by
    obtain ⟨p, -, h⟩ := Finset.mem_image.mp h
    cases h
  tokKey x := (x.2.2, 0)
  htok c j x hx := by
    obtain ⟨y, -, rfl⟩ := Finset.mem_map.mp hx
    rcases y with i | k | k <;> exact Prod.ext rfl (Subsingleton.elim _ _)

end Cert.Exch
-- ==== Proof.Steps.lean ====
/-
The step rules: a signal, the barrier wait, a copy, its two waits, the loads and stores.
-/
module

public import proofs.«01_k».proof.Proof.Sched

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.TalkSites (Fam)
open Idealize.ShloMosaic.ValueIdx

variable {F : FTy → Type} [FloatOps F]

local notation "𝕄" => MT nD τ sig ℕ (Elt F) ℕ UU ℕ

/-! ## What the device holds of an exchange as it goes on -/

/-- Exchange `k` not yet begun. -/
def Pre (c : Dev nD) (k : Fin 21) : sProp 𝕄 :=
  iprop(atPos ER (sC c k) 0 ∅ 0 ∗ reached ER (sC c k) 0 ∗ atPos ER (rC c k) 0 ∅ 0 ∗ dutyTok ER (sC c k) 0 c ∗ dutyTok ER (rC (peer c k) k) 0 c
    ∗ cred (tallyAt (rC c k) (kl k) (amt k)) ∗ free (peer c k) k)
/-- Its copy issued. -/
def Fly (c : Dev nD) (k : Fin 21) : sProp 𝕄 :=
  iprop(atPos ER (sC c k) 0 ∅ 0 ∗ atPos ER (rC c k) 0 ∅ 0 ∗ cred (tallyAt (sC c k) (kl k) (amt k)) ∗ cred (tallyAt (rC c k) (kl k) (amt k)))
/-- Its source read out. -/
def Half (c : Dev nD) (k : Fin 21) : sProp 𝕄 :=
  iprop(atPos ER (sC c k) (0 + 1) ∅ 0 ∗ atPos ER (rC c k) 0 ∅ 0 ∗ cred (tallyAt (rC c k) (kl k) (amt k)))
/-- The peer's block landed. -/
def Done (c : Dev nD) (k : Fin 21) : sProp 𝕄 := iprop(atPos ER (sC c k) (0 + 1) ∅ 0 ∗ atPos ER (rC c k) (0 + 1) ∅ 0)

/-- The device owes the landings of `S`. -/
def Ow (c : Dev nD) (S : Finset (Fin 21)) : sProp 𝕄 := iprop(∃ W, owes (c : Thread nD τ) (dueS c S) W)

variable (I : Dev nD → Inp F) (κ : GSem nD τ sig → ℕ)

/-- All cells' invariants: a persistent assertion that holds each. -/
structure Invs where
  P : sProp (MT nD τ sig ℕ (Elt F) ℕ UU ℕ)
  pers : BI.Persistent P
  s (c : Dev nD) (k : Fin 21) : P ⊢ cellInv ER (sched I) (κ (sC c k)) (sC c k)
  r (c : Dev nD) (k : Fin 21) : P ⊢ cellInv ER (sched I) (κ (rC c k)) (rC c k)
  b (c : Dev nD) : P ⊢ cellInv ER (sched I) (κ (bC c)) (bC c)

instance (V : Invs I κ) : BI.Persistent V.P := V.pers

section Steps

variable {κ}
variable (V : Invs I κ)
variable {α : Type} {Q : α → sProp (MT nD τ sig ℕ (Elt F) ℕ UU ℕ)}
variable (c : Dev nD)

omit [FloatOps F] in
theorem owns_elim {c : Thread nD τ} {sp : Space} {sh : Shape} {e : EltTy} (m : Memref sig c.2.kind sp sh e) (q : PosShare TreeShare) (X : sh.Idx → Elt F e) :
    (owns c m q X : sProp 𝕄) ⊢ iprop(∃ f, ⌜m.view.read (Elt F) f = X⌝ ∗ m.view.loc c ↦[m.view.set]{q} f) := .rfl

theorem rest_s (k : Fin 21) (hk0 : k ≠ 0) : bigSep ((sched I).duties (sC c k) 0 \ ∅) (fun d => (sched I).payload (sC c k) 0 d)
    = owns (c : Thread nD τ) (srcM k) (qs k) (sendVal I c k) := by
  rw [Finset.sdiff_empty, duties_s I c k hk0, bigSep_singleton, payload_s]
theorem rest_r (k : Fin 21) (hk0 : k ≠ 0) : bigSep ((sched I).duties (rC c k) 0 \ ∅) (fun d => (sched I).payload (rC c k) 0 d)
    = owns (c : Thread nD τ) (slR k) fullShare (recvVal I c k) := by
  rw [Finset.sdiff_empty, duties_r I c k hk0, bigSep_singleton, payload_r]

/-- The copy of exchange `k`. -/
theorem step_send (k : Fin 21) (hk0 : k ≠ 0) (n : Dev nD) (hn : n = peer c k) {s : Shape} {src dst : Memref sig .tc .vmem s .bf16} {a b : DmaSem sig}
    (ha : a = sS k) (hb : b = rS k) {X : s.Idx → Elt F .bf16} {q : PosShare TreeShare} {S S' : Finset (Fin 21)} (hk : k ∈ S) (hS' : S' = S.erase k)
    (h1 : (owns (c : Thread nD τ) src q X : sProp 𝕄) ⊢ owns (c : Thread nD τ) (srcM k) (qs k) (sendVal I c k))
    (h2 : (owns ((peer c k : Dev nD) : Thread nD τ) dst fullShare X : sProp 𝕄) ⊢ owns ((peer c k : Dev nD) : Thread nD τ) (slR k) fullShare (sendVal I c k))
    (h3 : iprop(∃ X, owns ((peer c k : Dev nD) : Thread nD τ) (slR k) fullShare X : sProp 𝕄) ⊢ iprop(∃ X, owns ((peer c k : Dev nD) : Thread nD τ) dst fullShare X))
    (hN : dst.view.amount (.dma b) = amt k)
    {hsc : dst.view.ref.isScScratch = false} {hsrc : src.view.WordExact} {hdst : dst.view.WordExact}
    {hsem : DmaTarget.Typed .vmem (.dma b) (.remote (Dev.tc n : Thread nD τ) dst (.dma a) hsc)}
    {K : PUnit → Prog (TpuEff nD τ sig (Elt F) Λ₀ .tc) α} :
    iprop(V.P ∗ Pre c k ∗ owns (c : Thread nD τ) src q X ∗ Ow c S)
      ⊢ iprop(((Fly c k ∗ Ow c S') -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma src (.remote (Dev.tc n : Thread nD τ) dst (.dma a) hsc) (.dma b) hsrc hdst hsem) K) Q) := by
  subst hn ha hb hS'
  unfold Pre Ow Fly free
  iintro ⟨#HI, ⟨Has, #Hrs, Har, Hts, Htr, Hcr, Hfree, #Hrr⟩, Hsrc, ⟨%W, HO⟩⟩ Hk
  ihave Hd := h3 $$ Hfree
  icases Hd with ⟨%X0, Hd⟩
  ihave Hd := owns_elim _ _ _ $$ Hd
  icases Hd with ⟨%fd, %hfd, Hd⟩
  ihave Hsrc := owns_elim _ _ _ $$ Hsrc
  icases Hsrc with ⟨%fs, %hfs, Hsrc⟩
  ihave #HIs := (V.s c k) $$ HI
  ihave #HIr := (V.r (peer c k) k) $$ HI
  iapply (Rounds.wp_send_pointsTo 𝒱₀ ER (sched I) (c : Thread nD τ) none (κ₁ := κ (sC c k)) (κ₂ := κ (rC (peer c k) k))
    (r₁ := 0) (r₂ := 0) (d₁ := c) (d₂ := c) (fd := fd)
    (by rw [duties_s I c k hk0]; exact Finset.mem_singleton_self _) (by rw [duties_r I (peer c k) k hk0, peer_peer]; exact Finset.mem_singleton_self _)
    (kl k) (kl k) (amt k) hN (amount_s I c c k) (amount_r I (peer c k) c k) (dueS c (S.erase k)) (dueS_erase c hk) (W := W)
    (by rw [payload_s]; exact (owns_intro _ _ _ _).trans (by rw [hfs]; exact h1))
    (by rw [payload_r]; exact (owns_intro _ _ _ _).trans (by rw [View.read_write_univ, hfs, recvVal, peer_peer]; exact h2))) $$ [Hsrc Hd HO Hts Htr]
  · isplitr; · iexact HIs
    isplitr; · iexact HIr
    isplitl [Hsrc]; · iexact Hsrc
    isplitl [Hd]; · iexact Hd
    isplitl [HO]; · iexact HO
    isplitl [Hts]; · iexact Hts
    isplitr; · iexact Hrs
    isplitl [Htr]; · iexact Htr
    iexact Hrr
  iintro ⟨Hcs, HO⟩
  iapply Hk
  isplitr [HO]
  · isplitl [Has]; · iexact Has
    isplitl [Har]; · iexact Har
    isplitl [Hcs]; · iexact Hcs
    iexact Hcr
  iexists W; iexact HO

/-- The wait for exchange `k`'s read-out. -/
theorem step_ws (k : Fin 21) (hk0 : k ≠ 0) {s : Shape} {src dst : Memref sig .tc .vmem s .bf16} {a : DmaSem sig} (ha : a = sS k) {S : Finset (Fin 21)}
    (hS : ∀ k' ∈ S, kl k < kl k') {R : sProp 𝕄} (hR : (owns (c : Thread nD τ) (srcM k) (qs k) (sendVal I c k) : sProp 𝕄) ⊢ R)
    (hN : dst.view.dmaCredit = amt k) {hsrc : src.view.WordExact} {hdst : dst.view.WordExact} {K : PUnit → Prog (TpuEff nD τ sig (Elt F) Λ₀ .tc) α} :
    iprop(V.P ∗ levAts (L 8) lv ∗ Fly c k ∗ Ow c S)
      ⊢ iprop(((Half c k ∗ R ∗ Ow c S) -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 a src dst hsrc hdst) K) Q) := by
  subst ha
  unfold Fly Ow Half
  iintro ⟨#HI, #Hlev, ⟨Has, Har, Hcs, Hcr⟩, ⟨%W, HO⟩⟩ Hk
  ihave #HIs := (V.s c k) $$ HI
  iapply (Rounds.wp_wait_rest_token 𝒱₀ ER (sched I) (c : Thread nD τ) none (κ := κ (sC c k))
      (wpE_waitDma2_eq 𝒱₀ (c : Thread nD τ) none Set.univ) (Set.mem_univ _) (kl k) (O := dueS c S) (W := W) (R := 0) (m := 0) (T := ∅)
      (by rw [Nat.zero_add, hN, expect_s I c k hk0])) $$ [Hcs HO Has]
  · isplitr; · iexact HIs
    isplitl [Hcs]; · rw [hN]; iexact Hcs
    isplitl [HO]; · iexact HO
    isplitr; · iapply (mayWaitS c _ _ (kl_lt k).2 S hS); iexact Hlev
    iexact Has
  iintro ⟨HO, Has, -, Hpay⟩
  iapply Hk
  isplitl [Has Har Hcr]
  · isplitl [Has]; · iexact Has
    isplitl [Har]; · iexact Har
    iexact Hcr
  isplitl [Hpay]
  · iapply hR; iapply (Entails.of_eq (rest_s I c k hk0)); iexact Hpay
  iexists _; iexact HO

/-- The wait for exchange `k`'s landing. -/
theorem step_wr (k : Fin 21) (hk0 : k ≠ 0) {s : Shape} {src dst : Memref sig .tc .vmem s .bf16} {a : DmaSem sig} (ha : a = rS k) {S : Finset (Fin 21)}
    (hS : ∀ k' ∈ S, kl k < kl k') (hN : dst.view.dmaCredit = amt k) {hsrc : src.view.WordExact} {hdst : dst.view.WordExact}
    {K : PUnit → Prog (TpuEff nD τ sig (Elt F) Λ₀ .tc) α} :
    iprop(V.P ∗ levAts (L 8) lv ∗ Half c k ∗ Ow c S)
      ⊢ iprop(((Done c k ∗ owns (c : Thread nD τ) (slR k) fullShare (recvVal I c k) ∗ Ow c S)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 a src dst hsrc hdst) K) Q) := by
  subst ha
  unfold Half Ow Done
  iintro ⟨#HI, #Hlev, ⟨Has, Har, Hcr⟩, ⟨%W, HO⟩⟩ Hk
  ihave #HIr := (V.r c k) $$ HI
  iapply (Rounds.wp_wait_rest_token 𝒱₀ ER (sched I) (c : Thread nD τ) none (κ := κ (rC c k))
      (wpE_waitDma2_eq 𝒱₀ (c : Thread nD τ) none Set.univ) (Set.mem_univ _) (kl k) (O := dueS c S) (W := W) (R := 0) (m := 0) (T := ∅)
      (by rw [Nat.zero_add, hN, expect_r I c k hk0])) $$ [Hcr HO Har]
  · isplitr; · iexact HIr
    isplitl [Hcr]; · rw [hN]; iexact Hcr
    isplitl [HO]; · iexact HO
    isplitr; · iapply (mayWaitS c _ _ (kl_lt k).2 S hS); iexact Hlev
    iexact Har
  iintro ⟨HO, Har, -, Hpay⟩
  iapply Hk
  isplitl [Has Har]
  · isplitl [Has]; · iexact Has
    iexact Har
  isplitl [Hpay]
  · iapply (Entails.of_eq (rest_r I c k hk0)); iexact Hpay
  iexists _; iexact HO

/-! ## The barrier -/

/-- The exchanges in which the device writes to its `i`-th barrier neighbour, from its own side. -/
def gset (i : Fin 7) : Finset (Fin 21) := Finset.univ.filter fun k => k ≠ 0 ∧ pm k = bm i

theorem give_eq (i : Fin 7) : give (xr c (bm i)) c = gset i := by
  revert c i; decide +kernel

/-- A signal to the `i`-th neighbour: it hands over the receive slots that the neighbour writes. -/
theorem step_signal (i : Fin 7) (n : Dev nD) (hn : n = xr c (bm i)) {S : Finset (Fin 21)} {T T' : Finset (Fin 7)} (hi : i ∈ T) (hT : T' = T.erase i)
    {W : Waits sig ℕ} {w : ℤ} (hw : w = 1) {K : PUnit → Prog (TpuEff nD τ sig (Elt F) Λ₀ .tc) α} :
    iprop(V.P ∗ reached ER (bC (xr c (bm i))) 0 ∗ dutyTok ER (bC (xr c (bm i))) 0 c ∗ bigSep (gset i) (fun k => free c k)
        ∗ owes (c : Thread nD τ) (dueS c S + dueB c T) W)
      ⊢ iprop((owes (c : Thread nD τ) (dueS c S + dueB c T') W -∗ wp frame (wpE (defs₀ (F := F)) 𝒱₀ (c : Thread nD τ) none) Set.univ (K ⟨⟩) Q)
          -∗ wp frame (wpE (defs₀ (F := F)) 𝒱₀ (c : Thread nD τ) none) Set.univ (.op (.semSignal (n : Thread nD τ) bS w) K) Q) := by
  subst hn hT hw
  iintro ⟨#HI, #Hr, Ht, Hf, HO⟩ Hk
  ihave #HIb := (V.b (xr c (bm i))) $$ HI
  iapply (Rounds.wp_signal 𝒱₀ ER (sched I) (c : Thread nD τ) none (dst := ((xr c (bm i) : Dev nD) : Thread nD τ)) (κ := κ (bC (xr c (bm i))))
      (d := c) (r := 0) (by rw [duties_b]; exact Finset.mem_image.mpr ⟨i, Finset.mem_univ _, xr_xr _ _⟩) (amount_b I _ c) 1
      (O₀ := dueS c S + dueB c T) (dueS c S + dueB c (T.erase i)) (by rw [dueB_erase c hi, add_assoc])) $$ [Ht Hf HO]
  · isplitr; · iexact HIb
    isplitl [HO]; · iexact HO
    isplitl [Ht]; · iexact Ht
    isplitl [Hf]
    · rw [payload_b, barPay, give_eq]; iexact Hf
    iexact Hr
  iexact Hk

/-- The exchanges. -/
abbrev ex : Finset (Fin 21) := Finset.univ.erase 0

theorem nbrs_give : ∀ c, (nbrs c).biUnion (give c) = ex := by decide +kernel
theorem give_disj (c d d' : Dev nD) (h : d ≠ d') : Disjoint (give c d) (give c d') :=
  Finset.disjoint_left.mpr fun k hk hk' => h ((Finset.mem_filter.mp hk).2.2.symm.trans (Finset.mem_filter.mp hk').2.2)

/-- The neighbours' slots, sorted by exchange. -/
theorem nbrs_free : (bigSep (nbrs c) fun d => barPay c d : sProp 𝕄) = bigSep ex fun k => free (peer c k) k := by
  rw [← nbrs_give c, bigSep_biUnion_eq _ _ _ fun d _ d' _ h => give_disj c d d' h]
  refine bigSep_congr fun d _ => ?_
  unfold barPay
  exact bigSep_congr fun k hk => by rw [(Finset.mem_filter.mp hk).2.2]

theorem rest_b : bigSep ((sched I).duties (bC c) 0 \ ∅) (fun d => (sched I).payload (bC c) 0 d) = bigSep ex fun k => free (peer c k) k := by
  rw [Finset.sdiff_empty, duties_b, bigSep_congr fun d _ => payload_b I c d, nbrs_free]

/-- The barrier wait. -/
theorem step_barrier {S : Finset (Fin 21)} {W : Waits sig ℕ} {w : ℤ} (hw : w = 7) {K : PUnit → Prog (TpuEff nD τ sig (Elt F) Λ₀ .tc) α} :
    iprop(V.P ∗ levAts (L 8) lv ∗ cred (tallyAt (bC c) 1 7) ∗ atPos ER (bC c) 0 ∅ 0 ∗ owes (c : Thread nD τ) (dueS c S + dueB c ∅) W)
      ⊢ iprop(((Ow c S ∗ atPos ER (bC c) (0 + 1) ∅ 0 ∗ bigSep ex (fun k => free (peer c k) k))
            -∗ wp frame (wpE (defs₀ (F := F)) 𝒱₀ (c : Thread nD τ) none) Set.univ (K ⟨⟩) Q)
          -∗ wp frame (wpE (defs₀ (F := F)) 𝒱₀ (c : Thread nD τ) none) Set.univ (.op (.semWait bS w) K) Q) := by
  subst hw
  iintro ⟨#HI, #Hlev, Hc, Hat, HO⟩ Hk
  ihave #HIb := (V.b c) $$ HI
  rw [show dueS c S + dueB c ∅ = dueS c S by rw [dueB, Finset.sum_empty, add_zero]]
  iapply (Rounds.wp_wait_rest_token 𝒱₀ ER (sched I) (c : Thread nD τ) none (κ := κ (bC c))
      (wpE_semWait_eq 𝒱₀ (c : Thread nD τ) none Set.univ) (Set.mem_univ _) 1 (O := dueS c S) (W := W) (R := 0) (m := 0) (T := ∅)
      (by rw [expect_b])) $$ [Hc HO Hat]
  · isplitr; · iexact HIb
    isplitl [Hc]; · iexact Hc
    isplitl [HO]; · iexact HO
    isplitr; · iapply (mayWaitS c _ 1 (by decide) S (fun k _ => (kl_lt k).1)); iexact Hlev
    iexact Hat
  iintro ⟨HO, Hat, -, Hpay⟩
  iapply Hk
  isplitl [HO]; · unfold Ow; iexists _; iexact HO
  isplitl [Hat]; · iexact Hat
  iapply (Entails.of_eq (rest_b I c)); iexact Hpay

/-! ## Loads and stores -/

abbrev oM : Memref sig .tc .vmem S512x768 .f32 := Memref.whole cc0_stg5_0

/-- The result's staging buffer at `g`. -/
def Out (g : Acc F) : sProp 𝕄 := ((c : Thread nD τ).loc cc0_stg5_0) ↦{fullShare} g

end Steps

end Cert.Exch
-- ==== Proof.Mem.lean ====
/-
The loads and stores of the kernel's body: the operands, the accumulator by rows, the slots of the two scratch buffers.
-/
module

public import proofs.«01_k».proof.Proof.Steps

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

/-- The shape of `n` rows. -/
abbrev rows (n : ℕ) : Shape := ⟨2, ![n, 768]⟩

/-! ## Rows of the accumulator through a rectangle -/

theorem read_rows {n o : ℕ} {off : Fin 2 → ℕ} (h : off = ![o, 0]) (hb : ∀ a, off a + (rows n).size a ≤ S512x768.size a) (g : Acc F) :
    oM.view.readAt (Elt F) (Rect.unit (s := S512x768) off (rows n).size hb).toLoadRect g = rd n g o := by
  subst h
  funext i
  rw [View.readAt_rect]
  have h0 : o + n ≤ 512 := hb 0
  have hi : (i 0).val < n := (i 0).isLt
  refine congrArg g (funext fun a => Fin.ext ?_)
  match a with
  | ⟨0, _⟩ => show o + 1 * (i 0).val = (o + (i 0).val) % 512; omega
  | ⟨1, _⟩ => show 0 + 1 * (i 1).val = (i 1).val; omega

theorem write_rows {n o : ℕ} {off : Fin 2 → ℕ} (h : off = ![o, 0]) (hb : ∀ a, off a + (rows n).size a ≤ S512x768.size a) (g : Acc F)
    (w : (rows n).Idx → Elt F .f32) :
    (oM.access (Rect.unit (s := S512x768) off (rows n).size hb)).write (Elt F) g w Finset.univ = wr n g o w := by
  subst h
  have h0 : o + n ≤ 512 := hb 0
  funext i
  unfold wr
  split
  · rename_i hi
    have e : i = (oM.access (Rect.unit (s := S512x768) ![o, 0] (rows n).size hb)).emb (ix2 ⟨(i 0).val - o, by omega⟩ (i 1)) := by
      refine funext fun a => Fin.ext ?_
      match a with
      | ⟨0, _⟩ => show (i 0).val = o + 1 * ((i 0).val - o); omega
      | ⟨1, _⟩ => show (i 1).val = 0 + 1 * (i 1).val; omega
    conv_lhs => rw [e]
    exact View.write_emb_of_mem _ _ (Finset.mem_univ _)
  · rename_i hi
    refine View.write_of_not_mem _ _ _ fun hm => hi ?_
    obtain ⟨x, -, e⟩ := Finset.mem_map.mp hm
    have e0 : o + 1 * (x 0).val = (i 0).val := congrArg (fun j : S512x768.Idx => (j 0).val) e
    have hx : (x 0).val < n := (x 0).isLt
    omega

section Steps

variable (I : Dev nD → Inp F)
variable {κ : GSem nD τ sig → ℕ}
variable (V : Invs I κ)
variable {α : Type} {Q : α → sProp (MT nD τ sig ℕ (Elt F) ℕ UU ℕ)}
variable (c : Dev nD)

theorem out_load (n o : ℕ) {off : Fin 2 → ℕ} (h : off = ![o, 0]) {hb : ∀ a, off a + (rows n).size a ≤ S512x768.size a} (g : Acc F)
    {hl : oM.view.LoadsAt (Rect.unit (s := S512x768) off (rows n).size hb).toLoadRect}
    {K : ((rows n).Idx → Elt F .f32) → Prog (TpuEff nD τ sig (Elt F) Λ₀ .tc) α} :
    (Out c g : sProp 𝕄) ⊢ iprop((Out c g -∗ wp frame (wpE (defs₀ (F := F)) 𝒱₀ (c : Thread nD τ) none) Set.univ (K (rd n g o)) Q)
      -∗ wp frame (wpE (defs₀ (F := F)) 𝒱₀ (c : Thread nD τ) none) Set.univ
          (.op (.load oM (Rect.unit (s := S512x768) off (rows n).size hb).toLoadRect hl) K) Q) := by
  rw [← read_rows h hb g]
  exact wp_load 𝒱₀ (c : Thread nD τ) none Set.univ (m := oM) (Finset.subset_univ _)

theorem out_store (n o : ℕ) {off : Fin 2 → ℕ} (h : off = ![o, 0]) {hb : ∀ a, off a + (rows n).size a ≤ S512x768.size a} (g : Acc F)
    {w : (rows n).Idx → Elt F .f32} {hx : (oM.access (Rect.unit (s := S512x768) off (rows n).size hb)).Stores Finset.univ}
    {hm : (Finset.univ : Finset (rows n).Idx) = Finset.univ ∨ ∀ a, (Rect.unit (s := S512x768) off (rows n).size hb).stride a = 1}
    {K : PUnit → Prog (TpuEff nD τ sig (Elt F) Λ₀ .tc) α} :
    (Out c g : sProp 𝕄) ⊢ iprop((Out c (wr n g o w) -∗ wp frame (wpE (defs₀ (F := F)) 𝒱₀ (c : Thread nD τ) none) Set.univ (K ⟨⟩) Q)
      -∗ wp frame (wpE (defs₀ (F := F)) 𝒱₀ (c : Thread nD τ) none) Set.univ
          (.op (.store oM (Rect.unit (s := S512x768) off (rows n).size hb) w Finset.univ hx hm) K) Q) := by
  rw [← write_rows h hb g w]
  exact wp_store 𝒱₀ (c : Thread nD τ) none Set.univ (m := oM) (r := Rect.unit (s := S512x768) off (rows n).size hb) (Mk := Finset.univ) (Finset.subset_univ _)

/-! ## Slots -/

theorem slot_load {m : Memref sig .tc .vmem S1008x768 .bf16} (r : Rect S1008x768) (hr : ∀ a, r.stride a = 1) (q : PosShare TreeShare)
    (X : r.shape.Idx → Elt F .bf16) {hl : m.view.LoadsAt r.toLoadRect} {K : (r.shape.Idx → Elt F .bf16) → Prog (TpuEff nD τ sig (Elt F) Λ₀ .tc) α} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (K X) Q)
      -∗ wp frame (wpE (defs₀ (F := F)) 𝒱₀ (c : Thread nD τ) none) Set.univ (.op (.load m r.toLoadRect hl) K) Q) := by
  iintro H Hk
  ihave H := owns_elim _ _ _ $$ H
  icases H with ⟨%f, %hf, H⟩
  subst hf
  iapply (wp_load_rect 𝒱₀ (c : Thread nD τ) none Set.univ (m := m) (r := r) (f := f) (q := q) (S := (m.slice r hr).view.set) (Finset.Subset.refl _)) $$ H
  iintro H
  iapply Hk
  iapply (owns_intro (c : Thread nD τ) (m.slice r hr) q f); iexact H

theorem slot_store {m : Memref sig .tc .vmem S1008x768 .bf16} (r : Rect S1008x768) (hr : ∀ a, r.stride a = 1)
    (X : r.shape.Idx → Elt F .bf16) {w : r.shape.Idx → Elt F .bf16} {hx : (m.access r).Stores Finset.univ}
    {hm : (Finset.univ : Finset r.shape.Idx) = Finset.univ ∨ ∀ a, r.stride a = 1} {K : PUnit → Prog (TpuEff nD τ sig (Elt F) Λ₀ .tc) α} :
    (owns (c : Thread nD τ) (m.slice r hr) fullShare X : sProp 𝕄)
      ⊢ iprop((owns (c : Thread nD τ) (m.slice r hr) fullShare w -∗ wp frame (wpE (defs₀ (F := F)) 𝒱₀ (c : Thread nD τ) none) Set.univ (K ⟨⟩) Q)
      -∗ wp frame (wpE (defs₀ (F := F)) 𝒱₀ (c : Thread nD τ) none) Set.univ (.op (.store m r w Finset.univ hx hm) K) Q) := by
  iintro H Hk
  ihave H := owns_elim _ _ _ $$ H
  icases H with ⟨%f, %hf, H⟩
  iapply (wp_store 𝒱₀ (c : Thread nD τ) none Set.univ (m := m) (r := r) (Mk := Finset.univ) (f := f) (w := w) (S := (m.slice r hr).view.set)
    (Finset.Subset.refl _)) $$ H
  iintro H
  iapply Hk
  ihave H := (owns_intro (c : Thread nD τ) (m.slice r hr) fullShare ((m.access r).write (Elt F) f w Finset.univ)) $$ H
  rw [show (m.slice r hr).view.read (Elt F) ((m.access r).write (Elt F) f w Finset.univ) = w from View.read_write_univ _ _]
  iexact H

/-- A load and a store of exchange `k`'s slot. -/
theorem loadR (k : Fin 21) (q : PosShare TreeShare) (X : (rk k).shape.Idx → Elt F .bf16) {hl : rM.view.LoadsAt (rk k).toLoadRect}
    {K : ((rk k).shape.Idx → Elt F .bf16) → Prog (TpuEff nD τ sig (Elt F) Λ₀ .tc) α} :
    (owns (c : Thread nD τ) (slR k) q X : sProp 𝕄)
      ⊢ iprop((owns (c : Thread nD τ) (slR k) q X -∗ wp frame (wpE (defs₀ (F := F)) 𝒱₀ (c : Thread nD τ) none) Set.univ (K X) Q)
      -∗ wp frame (wpE (defs₀ (F := F)) 𝒱₀ (c : Thread nD τ) none) Set.univ (.op (.load rM (rk k).toLoadRect hl) K) Q) :=
  slot_load c (rk k) (fun _ => rfl) q X
theorem loadS (k : Fin 21) (q : PosShare TreeShare) (X : (rk k).shape.Idx → Elt F .bf16) {hl : sM.view.LoadsAt (rk k).toLoadRect}
    {K : ((rk k).shape.Idx → Elt F .bf16) → Prog (TpuEff nD τ sig (Elt F) Λ₀ .tc) α} :
    (owns (c : Thread nD τ) (slS k) q X : sProp 𝕄)
      ⊢ iprop((owns (c : Thread nD τ) (slS k) q X -∗ wp frame (wpE (defs₀ (F := F)) 𝒱₀ (c : Thread nD τ) none) Set.univ (K X) Q)
      -∗ wp frame (wpE (defs₀ (F := F)) 𝒱₀ (c : Thread nD τ) none) Set.univ (.op (.load sM (rk k).toLoadRect hl) K) Q) :=
  slot_load c (rk k) (fun _ => rfl) q X
theorem storeS (k : Fin 21) (X : (rk k).shape.Idx → Elt F .bf16) {w : (rk k).shape.Idx → Elt F .bf16} {hx : (sM.access (rk k)).Stores Finset.univ}
    {hm : (Finset.univ : Finset (rk k).shape.Idx) = Finset.univ ∨ ∀ a, (rk k).stride a = 1} {K : PUnit → Prog (TpuEff nD τ sig (Elt F) Λ₀ .tc) α} :
    (owns (c : Thread nD τ) (slS k) fullShare X : sProp 𝕄)
      ⊢ iprop((owns (c : Thread nD τ) (slS k) fullShare w -∗ wp frame (wpE (defs₀ (F := F)) 𝒱₀ (c : Thread nD τ) none) Set.univ (K ⟨⟩) Q)
      -∗ wp frame (wpE (defs₀ (F := F)) 𝒱₀ (c : Thread nD τ) none) Set.univ (.op (.store sM (rk k) w Finset.univ hx hm) K) Q) :=
  slot_store c (rk k) (fun _ => rfl) X

/-! ## The operands -/

abbrev xM : Memref sig .tc .vmem S2x256x768 .bf16 := Memref.whole cc0_stg0_0
abbrev qM : Memref sig .tc .vmem S768x512 .bf16 := Memref.whole cc0_stg1_0
abbrev wM : Memref sig .tc .vmem S512x768 .bf16 := Memref.whole cc0_stg2_0
abbrev kM : Memref sig .tc .vmem S2x2x512x64 .bf16 := Memref.whole cc0_stg3_0
abbrev vM : Memref sig .tc .vmem S2x2x512x64 .bf16 := Memref.whole cc0_stg4_0

/-- The staged operands. -/
def SX : sProp 𝕄 := ((c : Thread nD τ).loc cc0_stg0_0) ↦{fullShare} (I c).x
@[inherit_doc SX] def SQ : sProp 𝕄 := ((c : Thread nD τ).loc cc0_stg1_0) ↦{fullShare} (I c).wq
@[inherit_doc SX] def SW : sProp 𝕄 := ((c : Thread nD τ).loc cc0_stg2_0) ↦{fullShare} (I c).wo
@[inherit_doc SX] def SK : sProp 𝕄 := ((c : Thread nD τ).loc cc0_stg3_0) ↦{fullShare} (I c).k
@[inherit_doc SX] def SV : sProp 𝕄 := ((c : Thread nD τ).loc cc0_stg4_0) ↦{fullShare} (I c).v

theorem read_xb {b : ℕ} {off : Fin 3 → ℕ} (h : off = ![b, 0, 0]) (hb : ∀ a, off a + S1x256x768.size a ≤ S2x256x768.size a) (x : S2x256x768.Idx → Elt F .bf16) :
    xM.view.readAt (Elt F) (Rect.unit (s := S2x256x768) off S1x256x768.size hb).toLoadRect x = xb x b := by
  subst h
  funext i
  rw [View.readAt_rect]
  have h0 : b + 1 ≤ 2 := hb 0
  have hi : (i 0).val < 1 := (i 0).isLt
  refine congrArg x (funext fun a => Fin.ext ?_)
  match a with
  | ⟨0, _⟩ => show b + 1 * (i 0).val = b % 2; omega
  | ⟨1, _⟩ => show 0 + 1 * (i 1).val = (i 1).val; omega
  | ⟨2, _⟩ => show 0 + 1 * (i 2).val = (i 2).val; omega

theorem read_kb {b h : ℕ} {off : Fin 4 → ℕ} (e : off = ![b, h, 0, 0]) (hb : ∀ a, off a + S1x1x512x64.size a ≤ S2x2x512x64.size a)
    (x : S2x2x512x64.Idx → Elt F .bf16) (m : Memref sig .tc .vmem S2x2x512x64 .bf16) :
    (fun i => x ((Rect.unit (s := S2x2x512x64) off S1x1x512x64.size hb).emb i)) = kb x b h := by
  subst e
  funext i
  have h0 : b + 1 ≤ 2 := hb 0
  have h1 : h + 1 ≤ 2 := hb 1
  have hi : (i 0).val < 1 := (i 0).isLt
  have hj : (i 1).val < 1 := (i 1).isLt
  refine congrArg x (funext fun a => Fin.ext ?_)
  match a with
  | ⟨0, _⟩ => show b + 1 * (i 0).val = b % 2; omega
  | ⟨1, _⟩ => show h + 1 * (i 1).val = h % 2; omega
  | ⟨2, _⟩ => show 0 + 1 * (i 2).val = (i 2).val; omega
  | ⟨3, _⟩ => show 0 + 1 * (i 3).val = (i 3).val; omega

theorem x_load {b : ℕ} {off : Fin 3 → ℕ} (h : off = ![b, 0, 0]) {hb : ∀ a, off a + S1x256x768.size a ≤ S2x256x768.size a}
    {hl : xM.view.LoadsAt (Rect.unit (s := S2x256x768) off S1x256x768.size hb).toLoadRect}
    {K : (S1x256x768.Idx → Elt F .bf16) → Prog (TpuEff nD τ sig (Elt F) Λ₀ .tc) α} :
    (SX I c : sProp 𝕄) ⊢ iprop((SX I c -∗ wp frame (wpE (defs₀ (F := F)) 𝒱₀ (c : Thread nD τ) none) Set.univ (K (xb (I c).x b)) Q)
      -∗ wp frame (wpE (defs₀ (F := F)) 𝒱₀ (c : Thread nD τ) none) Set.univ
          (.op (.load xM (Rect.unit (s := S2x256x768) off S1x256x768.size hb).toLoadRect hl) K) Q) := by
  rw [← read_xb h hb]
  exact wp_load 𝒱₀ (c : Thread nD τ) none Set.univ (m := xM) (Finset.subset_univ _)

theorem k_load {b h : ℕ} {off : Fin 4 → ℕ} (e : off = ![b, h, 0, 0]) {hb : ∀ a, off a + S1x1x512x64.size a ≤ S2x2x512x64.size a}
    {hl : kM.view.LoadsAt (Rect.unit (s := S2x2x512x64) off S1x1x512x64.size hb).toLoadRect}
    {K : (S1x1x512x64.Idx → Elt F .bf16) → Prog (TpuEff nD τ sig (Elt F) Λ₀ .tc) α} :
    (SK I c : sProp 𝕄) ⊢ iprop((SK I c -∗ wp frame (wpE (defs₀ (F := F)) 𝒱₀ (c : Thread nD τ) none) Set.univ (K (kb (I c).k b h)) Q)
      -∗ wp frame (wpE (defs₀ (F := F)) 𝒱₀ (c : Thread nD τ) none) Set.univ
          (.op (.load kM (Rect.unit (s := S2x2x512x64) off S1x1x512x64.size hb).toLoadRect hl) K) Q) := by
  rw [← read_kb e hb (I c).k kM]
  exact wp_load 𝒱₀ (c : Thread nD τ) none Set.univ (m := kM) (Finset.subset_univ _)

theorem v_load {b h : ℕ} {off : Fin 4 → ℕ} (e : off = ![b, h, 0, 0]) {hb : ∀ a, off a + S1x1x512x64.size a ≤ S2x2x512x64.size a}
    {hl : vM.view.LoadsAt (Rect.unit (s := S2x2x512x64) off S1x1x512x64.size hb).toLoadRect}
    {K : (S1x1x512x64.Idx → Elt F .bf16) → Prog (TpuEff nD τ sig (Elt F) Λ₀ .tc) α} :
    (SV I c : sProp 𝕄) ⊢ iprop((SV I c -∗ wp frame (wpE (defs₀ (F := F)) 𝒱₀ (c : Thread nD τ) none) Set.univ (K (kb (I c).v b h)) Q)
      -∗ wp frame (wpE (defs₀ (F := F)) 𝒱₀ (c : Thread nD τ) none) Set.univ
          (.op (.load vM (Rect.unit (s := S2x2x512x64) off S1x1x512x64.size hb).toLoadRect hl) K) Q) := by
  rw [← read_kb e hb (I c).v vM]
  exact wp_load 𝒱₀ (c : Thread nD τ) none Set.univ (m := vM) (Finset.subset_univ _)

theorem hz : (![0, 0] : Fin 2 → Nat) = fun _ => 0 := funext fun a => by fin_cases a <;> rfl

theorem q_load {hb : ∀ a, (![0, 0] : Fin 2 → ℕ) a + S768x512.size a ≤ S768x512.size a}
    {hl : qM.view.LoadsAt (Rect.unit (s := S768x512) ![0, 0] S768x512.size hb).toLoadRect}
    {K : (S768x512.Idx → Elt F .bf16) → Prog (TpuEff nD τ sig (Elt F) Λ₀ .tc) α} :
    (SQ I c : sProp 𝕄) ⊢ iprop((SQ I c -∗ wp frame (wpE (defs₀ (F := F)) 𝒱₀ (c : Thread nD τ) none) Set.univ (K (I c).wq) Q)
      -∗ wp frame (wpE (defs₀ (F := F)) 𝒱₀ (c : Thread nD τ) none) Set.univ
          (.op (.load qM (Rect.unit (s := S768x512) ![0, 0] S768x512.size hb).toLoadRect hl) K) Q) := by
  have h : qM.view.readAt (Elt F) (Rect.unit (s := S768x512) ![0, 0] S768x512.size hb).toLoadRect (I c).wq = (I c).wq :=
    Memref.readAt_unit_zero (Elt F) cc0_stg1_0 hz _ _
  conv_rhs => rw [← h]
  exact wp_load 𝒱₀ (c : Thread nD τ) none Set.univ (m := qM) (Finset.subset_univ _)

theorem w_load {hb : ∀ a, (![0, 0] : Fin 2 → ℕ) a + S512x768.size a ≤ S512x768.size a}
    {hl : wM.view.LoadsAt (Rect.unit (s := S512x768) ![0, 0] S512x768.size hb).toLoadRect}
    {K : (S512x768.Idx → Elt F .bf16) → Prog (TpuEff nD τ sig (Elt F) Λ₀ .tc) α} :
    (SW I c : sProp 𝕄) ⊢ iprop((SW I c -∗ wp frame (wpE (defs₀ (F := F)) 𝒱₀ (c : Thread nD τ) none) Set.univ (K (I c).wo) Q)
      -∗ wp frame (wpE (defs₀ (F := F)) 𝒱₀ (c : Thread nD τ) none) Set.univ
          (.op (.load wM (Rect.unit (s := S512x768) ![0, 0] S512x768.size hb).toLoadRect hl) K) Q) := by
  have h : wM.view.readAt (Elt F) (Rect.unit (s := S512x768) ![0, 0] S512x768.size hb).toLoadRect (I c).wo = (I c).wo :=
    Memref.readAt_unit_zero (Elt F) cc0_stg2_0 hz _ _
  conv_rhs => rw [← h]
  exact wp_load 𝒱₀ (c : Thread nD τ) none Set.univ (m := wM) (Finset.subset_univ _)

/-- The copy of exchange `k` from where it reads to the peer's slot. -/
theorem copy (k : Fin 21) (hk0 : k ≠ 0) (n : Dev nD) (hn : n = peer c k) {S S' : Finset (Fin 21)} (hk : k ∈ S) (hS' : S' = S.erase k)
    {hsc : (slR k).view.ref.isScScratch = false} {hsrc : (srcM k).view.WordExact} {hdst : (slR k).view.WordExact}
    {hsem : DmaTarget.Typed .vmem (.dma (rS k)) (.remote (Dev.tc n : Thread nD τ) (slR k) (.dma (sS k)) hsc)}
    (hN : (slR k).view.amount (.dma (rS k)) = amt k)
    {K : PUnit → Prog (TpuEff nD τ sig (Elt F) Λ₀ .tc) α} :
    iprop(V.P ∗ Pre c k ∗ owns (c : Thread nD τ) (srcM k) (qs k) (sendVal I c k) ∗ Ow c S)
      ⊢ iprop(((Fly c k ∗ Ow c S') -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (srcM k) (.remote (Dev.tc n : Thread nD τ) (slR k) (.dma (sS k)) hsc) (.dma (rS k)) hsrc hdst hsem) K) Q) :=
  step_send I V c k hk0 n hn rfl rfl hk hS' .rfl .rfl .rfl hN

end Steps

end Cert.Exch
-- ==== Proof.Ops.lean ====
/-
Groups of steps, and the debts in the order of the copies.
-/
module

public import proofs.«01_k».proof.Proof.Mem

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

variable (I : Dev nD → Inp F)
variable {κ : GSem nD τ sig → ℕ}
variable (V : Invs I κ)
variable {α : Type} {Q : α → sProp (MT nD τ sig ℕ (Elt F) ℕ UU ℕ)}
variable (c : Dev nD)

/-- The run of a program on device `c`'s core. -/
abbrev Run (c : Dev nD) (Q : α → sProp (MT nD τ sig ℕ (Elt F) ℕ UU ℕ)) (p : Prog (TpuEff nD τ sig (Elt F) Λ₀ .tc) α) : sProp 𝕄 :=
  wp frame (wpE (defs₀ (F := F)) 𝒱₀ (c : Thread nD τ) none) Set.univ p Q

/-- A send slot at contents that do not matter. -/
abbrev Slot (c : Dev nD) (k : Fin 21) : sProp 𝕄 := iprop(∃ X, owns (c : Thread nD τ) (slS k) fullShare X)
/-- A send slot filled for exchange `k`. -/
abbrev Full (c : Dev nD) (k : Fin 21) : sProp 𝕄 := owns (c : Thread nD τ) (slS k) fullShare (sendVal I c k)
/-- What exchange `k` reads. -/
abbrev Src (c : Dev nD) (k : Fin 21) : sProp 𝕄 := owns (c : Thread nD τ) (srcM k) (qs k) (sendVal I c k)
/-- What landed in exchange `k`. -/
abbrev Got (c : Dev nD) (k : Fin 21) : sProp 𝕄 := owns (c : Thread nD τ) (slR k) fullShare (recvVal I c k)

/-! ## The debts as the copies are issued -/

/-- The place of an exchange in the order of the copies; the third axis' exchanges share theirs. -/
def ord : Fin 21 → ℕ := ![0, 4, 4, 4, 7, 8, 9, 10, 11, 12, 14, 15, 16, 13, 17, 18, 19, 0, 1, 2, 3]
/-- The exchanges from place `n` on. -/
def left (n : ℕ) : Finset (Fin 21) := Finset.univ.filter fun k => k ≠ 0 ∧ n ≤ ord k

theorem ex_left : (ex : Finset (Fin 21)) = left 0 := by decide +kernel
theorem left_end : left 20 = ∅ := by decide +kernel

theorem left_hi : ∀ k ∈ left 7, 2 < kl k := by decide +kernel
theorem mem_three : ∀ k : Fin 21, k ∈ ({1, 2, 3} : Finset (Fin 21)) → 1 ≤ k.val ∧ k.val ≤ 3 ∧ 2 < kl k := by decide +kernel

/-- The third axis' exchanges that are not issued before the `n`-th test. -/
def unsent (c : Dev nD) (n : ℕ) : Finset (Fin 21) := ({1, 2, 3} : Finset (Fin 21)).filter fun e => n + 1 ≤ 3 * (zc c ^^^ e.val) + e.val
/-- The debts before the `n`-th test. -/
def staged (c : Dev nD) (n : ℕ) : Finset (Fin 21) := left 7 ∪ unsent c n

theorem staged_zero : ∀ c, staged c 0 = left 4 := by decide +kernel
theorem staged_end : ∀ c, staged c 12 = left 7 := by decide +kernel
theorem staged_hi (c : Dev nD) (n : ℕ) : ∀ k ∈ staged c n, 2 < kl k := by
  intro k hk
  rcases Finset.mem_union.mp hk with h | h
  · exact left_hi k h
  · exact (mem_three k (Finset.mem_of_mem_filter _ h)).2.2
theorem staged_step : ∀ (c : Dev nD) (n : Fin 12) (k : Fin 21), k ∈ ({1, 2, 3} : Finset (Fin 21)) → n.val % 3 + 1 = k.val →
    if zc c ^^^ k.val = n.val / 3 then k ∈ staged c n.val ∧ staged c (n.val + 1) = (staged c n.val).erase k else staged c (n.val + 1) = staged c n.val := by
  decide +kernel

/-- Exchange `e` of the third axis before the `n`-th test. -/
def Stg (c : Dev nD) (n : ℕ) (e : Fin 21) : sProp 𝕄 := if n + 1 ≤ 3 * (zc c ^^^ e.val) + e.val then iprop(Pre c e ∗ Slot c e) else Fly c e
/-- The third axis before the `n`-th test. -/
def St (c : Dev nD) (n : ℕ) : sProp 𝕄 := iprop(bigSep ({1, 2, 3} : Finset (Fin 21)) (Stg c n) ∗ Ow c (staged c n))

/-! ## Groups of steps -/

/-- A block of the accumulator, read and written to a send slot. -/
theorem put (k : Fin 21) (n o : ℕ) {off : Fin 2 → ℕ} (h : off = ![o, 0]) (g : Acc F)
    (f : ((rows n).Idx → Elt F .f32) → (rk k).shape.Idx → Elt F .bf16) (hv : f (rd n g o) = sendVal I c k) {hb : ∀ a, off a + (rows n).size a ≤ S512x768.size a}
    {hl : oM.view.LoadsAt (Rect.unit (s := S512x768) off (rows n).size hb).toLoadRect}
    {hl2 : sM.view.LoadsAt (rk k).toLoadRect} {hx : (sM.access (rk k)).Stores Finset.univ}
    {hm : (Finset.univ : Finset (rk k).shape.Idx) = Finset.univ ∨ ∀ a, (rk k).stride a = 1} {K : PUnit → Prog (TpuEff nD τ sig (Elt F) Λ₀ .tc) α} :
    iprop(Out c g ∗ Slot c k)
      ⊢ iprop(((Out c g ∗ Full I c k) -∗ Run c Q (K ⟨⟩))
        -∗ Run c Q (.op (.load oM (Rect.unit (s := S512x768) off (rows n).size hb).toLoadRect hl) fun v =>
          .op (.load sM (rk k).toLoadRect hl2) fun _ => .op (.store sM (rk k) (f v) Finset.univ hx hm) K)) := by
  iintro ⟨Ho, ⟨%X, Hs⟩⟩ Hk
  iapply (out_load c n o h g) $$ Ho; iintro Ho
  iapply (loadS c k fullShare X) $$ Hs; iintro Hs
  iapply (storeS c k X) $$ Hs; iintro Hs
  rw [hv]
  iapply Hk
  isplitl [Ho]; · iexact Ho
  iexact Hs

/-- A landed block, added to the accumulator. -/
theorem add (k : Fin 21) (n o : ℕ) {off : Fin 2 → ℕ} (h : off = ![o, 0]) (g g' : Acc F)
    (f : ((rows n).Idx → Elt F .f32) → ((rk k).shape.Idx → Elt F .bf16) → (rows n).Idx → Elt F .f32)
    (hv : wr n g o (f (rd n g o) (recvVal I c k)) = g') {hb : ∀ a, off a + (rows n).size a ≤ S512x768.size a}
    {hl hl' : oM.view.LoadsAt (Rect.unit (s := S512x768) off (rows n).size hb).toLoadRect}
    {hl2 : rM.view.LoadsAt (rk k).toLoadRect} {hx : (oM.access (Rect.unit (s := S512x768) off (rows n).size hb)).Stores Finset.univ}
    {hm : (Finset.univ : Finset (rows n).Idx) = Finset.univ ∨ ∀ a, (Rect.unit (s := S512x768) off (rows n).size hb).stride a = 1}
    {K : PUnit → Prog (TpuEff nD τ sig (Elt F) Λ₀ .tc) α} :
    iprop(Out c g ∗ Got I c k)
      ⊢ iprop(((Out c g' ∗ Got I c k) -∗ Run c Q (K ⟨⟩))
        -∗ Run c Q (.op (.load oM (Rect.unit (s := S512x768) off (rows n).size hb).toLoadRect hl) fun v =>
          .op (.load rM (rk k).toLoadRect hl2) fun w => .op (.load oM (Rect.unit (s := S512x768) off (rows n).size hb).toLoadRect hl') fun _ =>
          .op (.store oM (Rect.unit (s := S512x768) off (rows n).size hb) (f v w) Finset.univ hx hm) K)) := by
  iintro ⟨Ho, Hs⟩ Hk
  iapply (out_load c n o h g) $$ Ho; iintro Ho
  iapply (loadR c k fullShare (recvVal I c k)) $$ Hs; iintro Hs
  iapply (out_load c n o h g) $$ Ho; iintro Ho
  iapply (out_store c n o h g) $$ Ho; iintro Ho
  rw [hv]
  iapply Hk
  isplitl [Ho]; · iexact Ho
  iexact Hs

/-- A landed block, copied into the accumulator. -/
theorem fill (k : Fin 21) (n o : ℕ) {off : Fin 2 → ℕ} (h : off = ![o, 0]) (g g' : Acc F)
    (f : ((rk k).shape.Idx → Elt F .bf16) → (rows n).Idx → Elt F .f32)
    (hv : wr n g o (f (recvVal I c k)) = g') {hb : ∀ a, off a + (rows n).size a ≤ S512x768.size a}
    {hl : oM.view.LoadsAt (Rect.unit (s := S512x768) off (rows n).size hb).toLoadRect}
    {hl2 : rM.view.LoadsAt (rk k).toLoadRect} {hx : (oM.access (Rect.unit (s := S512x768) off (rows n).size hb)).Stores Finset.univ}
    {hm : (Finset.univ : Finset (rows n).Idx) = Finset.univ ∨ ∀ a, (Rect.unit (s := S512x768) off (rows n).size hb).stride a = 1}
    {K : PUnit → Prog (TpuEff nD τ sig (Elt F) Λ₀ .tc) α} :
    iprop(Out c g ∗ Got I c k)
      ⊢ iprop(((Out c g' ∗ Got I c k) -∗ Run c Q (K ⟨⟩))
        -∗ Run c Q (.op (.load rM (rk k).toLoadRect hl2) fun w => .op (.load oM (Rect.unit (s := S512x768) off (rows n).size hb).toLoadRect hl) fun _ =>
          .op (.store oM (Rect.unit (s := S512x768) off (rows n).size hb) (f w) Finset.univ hx hm) K)) := by
  iintro ⟨Ho, Hs⟩ Hk
  iapply (loadR c k fullShare (recvVal I c k)) $$ Hs; iintro Hs
  iapply (out_load c n o h g) $$ Ho; iintro Ho
  iapply (out_store c n o h g) $$ Ho; iintro Ho
  rw [hv]
  iapply Hk
  isplitl [Ho]; · iexact Ho
  iexact Hs

/-- The wait for the read-out. -/
theorem ws (k : Fin 21) (hk0 : k ≠ 0) {S : Finset (Fin 21)}
    (hS : ∀ k' ∈ S, kl k < kl k') (hN : (srcM k).view.dmaCredit = amt k) {hsrc : (slR k).view.WordExact} {hdst : (srcM k).view.WordExact}
    {K : PUnit → Prog (TpuEff nD τ sig (Elt F) Λ₀ .tc) α} :
    iprop(V.P ∗ levAts (L 8) lv ∗ Fly c k ∗ Ow c S)
      ⊢ iprop(((Half c k ∗ Src I c k ∗ Ow c S) -∗ Run c Q (K ⟨⟩)) -∗ Run c Q (.op (.waitDma2 (sS k) (slR k) (srcM k) hsrc hdst) K)) := by
  iintro ⟨#HV, #HL, HF, HO⟩ Hk
  iapply (step_ws I V c k hk0 rfl hS .rfl hN) $$ [HF HO]
  · isplitr; · iexact HV
    isplitr; · iexact HL
    isplitl [HF]; · iexact HF
    iexact HO
  iexact Hk

/-- The wait for the landing. -/
theorem wl (k : Fin 21) (hk0 : k ≠ 0) {S : Finset (Fin 21)}
    (hS : ∀ k' ∈ S, kl k < kl k') {hsrc : (srcM k).view.WordExact} {hdst : (slR k).view.WordExact}
    {K : PUnit → Prog (TpuEff nD τ sig (Elt F) Λ₀ .tc) α} :
    iprop(V.P ∗ levAts (L 8) lv ∗ Half c k ∗ Ow c S)
      ⊢ iprop(((Done c k ∗ Got I c k ∗ Ow c S) -∗ Run c Q (K ⟨⟩)) -∗ Run c Q (.op (.waitDma2 (rS k) (srcM k) (slR k) hsrc hdst) K)) := by
  iintro ⟨#HV, #HL, HF, HO⟩ Hk
  iapply (step_wr I V c k hk0 rfl hS rfl) $$ [HF HO]
  · isplitr; · iexact HV
    isplitr; · iexact HL
    isplitl [HF]; · iexact HF
    iexact HO
  iexact Hk

theorem src_three (k : Fin 21) (hk : k ∈ ({1, 2, 3} : Finset (Fin 21))) : Full I c k ⊢ (Src I c k : sProp 𝕄) := by
  have : k = 1 ∨ k = 2 ∨ k = 3 := by simpa using hk
  rcases this with rfl | rfl | rfl <;> exact .rfl

/-- The `n`-th test of the third axis: the device whose block is complete sends it. -/
theorem stage {p : Prop} [Decidable p] (n : Fin 12) (j m m' : ℕ) (hj : n.val / 3 + 1 = j) (hm0 : n.val = m) (hm1 : n.val + 1 = m') (k : Fin 21) (hk : k ∈ ({1, 2, 3} : Finset (Fin 21))) (hn : n.val % 3 + 1 = k.val)
    (hp : p ↔ zc c ^^^ k.val = n.val / 3) {off : Fin 2 → ℕ} (h : off = ![lo c + (zc c ^^^ k.val) * 64, 0])
    (f : ((rows 64).Idx → Elt F .f32) → (rk k).shape.Idx → Elt F .bf16)
    (hv : f (rd 64 (gA I c ((zc c ^^^ k.val) + 1)) (lo c + (zc c ^^^ k.val) * 64)) = sendVal I c k)
    {dv : p → Dev nD} (hd : ∀ h, dv h = peer c k) {hb : p → ∀ a, off a + (rows 64).size a ≤ S512x768.size a}
    {hl : ∀ h, oM.view.LoadsAt (Rect.unit (s := S512x768) off (rows 64).size (hb h)).toLoadRect}
    {hl2 : p → sM.view.LoadsAt (rk k).toLoadRect} {hx : p → (sM.access (rk k)).Stores Finset.univ}
    {hm : p → ((Finset.univ : Finset (rk k).shape.Idx) = Finset.univ ∨ ∀ a, (rk k).stride a = 1)}
    {hsc : p → (slR k).view.ref.isScScratch = false} {hsrc : p → (slS k).view.WordExact} {hdst : p → (slR k).view.WordExact}
    {hsem : ∀ h, DmaTarget.Typed .vmem (.dma (rS k)) (.remote (Dev.tc (dv h) : Thread nD τ) (slR k) (.dma (sS k)) (hsc h))}
    (hN : (slR k).view.amount (.dma (rS k)) = amt k) {β : Type} {J : Prog (TpuEff nD τ sig (Elt F) Λ₀ .tc) β}
    {K : β → Prog (TpuEff nD τ sig (Elt F) Λ₀ .tc) α} :
    iprop(V.P ∗ Out c (gA I c j) ∗ St c m)
      ⊢ iprop(((Out c (gA I c j) ∗ St c m') -∗ Run c Q (J >>= K))
        -∗ Run c Q ((if h : p then (.op (.load oM (Rect.unit (s := S512x768) off (rows 64).size (hb h)).toLoadRect (hl h)) fun v =>
          .op (.load sM (rk k).toLoadRect (hl2 h)) fun _ => .op (.store sM (rk k) (f v) Finset.univ (hx h) (hm h)) fun _ =>
          .op (.enqueueDma (slS k) (.remote (Dev.tc (dv h) : Thread nD τ) (slR k) (.dma (sS k)) (hsc h)) (.dma (rS k)) (hsrc h) (hdst h) (hsem h))
            fun _ => J) else J) >>= K)) := by
  subst hj hm0 hm1
  have hst := staged_step c n k hk hn
  have rest : bigSep (({1, 2, 3} : Finset (Fin 21)).erase k) (Stg (F := F) c (n.val + 1)) = bigSep (({1, 2, 3} : Finset (Fin 21)).erase k) (Stg (F := F) c n.val) := by
    refine bigSep_congr fun e he => ?_
    obtain ⟨hne, he⟩ := Finset.mem_erase.mp he
    have hne' : e.val ≠ k.val := fun h => hne (Fin.ext h)
    have he3 := mem_three e he
    unfold Stg
    exact if_congr (by omega) rfl rfl
  have hk3 := mem_three k hk
  unfold St
  have split : ∀ m, bigSep ({1, 2, 3} : Finset (Fin 21)) (Stg (F := F) c m) = iprop(Stg c m k ∗ bigSep (({1, 2, 3} : Finset (Fin 21)).erase k) (Stg c m)) :=
    fun m => bigSep_erase hk
  rw [split, split, rest]
  by_cases h0 : p
  · have hz := hp.mp h0
    rw [if_pos hz] at hst
    rw [hst.2, dif_pos h0]
    rw [show Stg (F := F) c n.val k = iprop(Pre c k ∗ Slot c k) from if_pos (by omega), show Stg (F := F) c (n.val + 1) k = Fly c k from if_neg (by omega)]
    rw [hz] at hv h
    simp only [Prog.bind_op]
    iintro ⟨HV, Ho, ⟨⟨HP, Hs⟩, HR⟩, HO⟩ Hk
    iapply (put I c k 64 _ h (gA I c (n.val / 3 + 1)) f hv) $$ [Ho Hs]
    · isplitl [Ho]; · iexact Ho
      iexact Hs
    iintro ⟨Ho, Hs⟩
    iapply (step_send I V c k (by rintro rfl; exact absurd hk3.1 (by decide)) (dv h0) (hd h0) rfl rfl hst.1 rfl (src_three I c k hk) .rfl .rfl hN) $$ [HV HP Hs HO]
    · isplitl [HV]; · iexact HV
      isplitl [HP]; · iexact HP
      isplitl [Hs]; · iexact Hs
      iexact HO
    iintro ⟨HF, HO⟩
    iapply Hk
    isplitl [Ho]; · iexact Ho
    isplitr [HO]
    · isplitl [HF]; · iexact HF
      iexact HR
    iexact HO
  · have hz : ¬ zc c ^^^ k.val = n.val / 3 := fun h => h0 (hp.mpr h)
    rw [if_neg hz] at hst
    rw [hst, dif_neg h0]
    rw [show Stg (F := F) c (n.val + 1) k = Stg c n.val k from if_congr (by omega) rfl rfl]
    iintro ⟨HV, H⟩ Hk
    iapply Hk; iexact H

end Cert.Exch
-- ==== Proof.PartsB.lean ====
/-
The reduction: the steps from the first landing to the summed rows.
-/
module

public import proofs.«01_k».proof.Proof.Ops

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

variable (I : Dev nD → Inp F)
variable {κ : GSem nD τ sig → ℕ}
variable (V : Invs I κ)
variable {α : Type} {Q : α → sProp (MT nD τ sig ℕ (Elt F) ℕ UU ℕ)}
variable (c : Dev nD)

theorem left_lt {j : ℕ} (n : ℕ) (h : ∀ k ∈ left n, j < kl k) : ∀ k ∈ left n, j < kl k := h

theorem st_fold (n : ℕ) : iprop(bigSep ({1, 2, 3} : Finset (Fin 21)) (Stg c n) ∗ Ow c (staged c n)) ⊢ (St c n : sProp 𝕄) := .rfl
theorem st_open (n : ℕ) : (St c n : sProp 𝕄) ⊢ iprop(bigSep ({1, 2, 3} : Finset (Fin 21)) (Stg c n) ∗ Ow c (staged c n)) := .rfl

/-- After all tests every block is under way. -/
theorem st_end : (St c 12 : sProp 𝕄) ⊢ iprop(Fly c 1 ∗ Fly c 2 ∗ Fly c 3 ∗ Ow c (left 7)) := by
  unfold St
  have h1 : Stg (F := F) c 12 1 = Fly c 1 := if_neg (by have := xorz_lt c 1; exact show ¬ 12 + 1 ≤ 3 * (zc c ^^^ 1) + 1 by change zc c ^^^ 1 < 4 at this; omega)
  have h2 : Stg (F := F) c 12 2 = Fly c 2 := if_neg (by have := xorz_lt c 2; exact show ¬ 12 + 1 ≤ 3 * (zc c ^^^ 2) + 2 by change zc c ^^^ 2 < 4 at this; omega)
  have h3 : Stg (F := F) c 12 3 = Fly c 3 := if_neg (by have := xorz_lt c 3; exact show ¬ 12 + 1 ≤ 3 * (zc c ^^^ 3) + 3 by change zc c ^^^ 3 < 4 at this; omega)
  have e : bigSep ({1, 2, 3} : Finset (Fin 21)) (Stg (F := F) c 12) = iprop(Fly c 1 ∗ Fly c 2 ∗ Fly c 3) := by
    rw [bigSep_insert (by decide), bigSep_insert (by decide), bigSep_singleton, h1, h2, h3]; rfl
  rw [staged_end, e]
  iintro ⟨⟨H1, H2, H3⟩, HO⟩
  iframe # ∗

theorem part16 (w1 w2 w3 w4 w5 w6 w7 : BitVec 32)
    {K : _ → Prog (TpuEff nD τ sig (Elt F) Λ₀ .tc) α} :
    iprop(V.P ∗ levAts (L 8) lv ∗ Out c (gA I c 0) ∗ Half c 17 ∗ Fly c 18 ∗ St c 0)
      ⊢ iprop(((Out c (gA I c 1) ∗ Done c 17 ∗ Got I c 17 ∗ Half c 18 ∗ Src I c 18 ∗ St c 3) -∗ Run c Q (K ⟨⟩))
        -∗ Run c Q ((k0_part16 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7) >>= K)) := by
  rw [k0_part16_eq_skeleton]; unfold k0_part16_skel
  simp only [Prog.lift, Prog.bind_op, Prog.bind_ret, Prog.pure_eq_ret, Prog.bind_assoc]
  iintro ⟨#HV, #HL, Ho, H17, F18, HS⟩ Hc
  ihave HS := (st_open c _) $$ HS
  icases HS with ⟨HS, HO⟩
  iapply (wl I V c 17 (by decide) (staged_hi c 0)) $$ [H17 HO]
  · iframe # ∗
  iintro ⟨D17, G17, HO⟩
  iapply (add I c 17 64 (lo c + 0 * 64) (off10_0_eq c) _ (gA I c 1) k0_pay43 rfl) $$ [Ho G17]
  · iframe # ∗
  iintro ⟨Ho, G17⟩
  ihave HS := (st_fold c 0) $$ [HS HO]
  · iframe # ∗
  iapply (stage I V c 0 1 0 1 rfl rfl rfl 1 (by decide) (by decide) (cond1_iff c) (off11_eq c) k0_pay44 rfl (dev12_eq c) rfl) $$ [Ho HS]
  · iframe # ∗
  iintro ⟨Ho, HS⟩
  iapply (stage I V c 1 1 1 2 rfl rfl rfl 2 (by decide) (by decide) (cond2_iff c) (off12_eq c) k0_pay45 rfl (dev13_eq c) rfl) $$ [Ho HS]
  · iframe # ∗
  iintro ⟨Ho, HS⟩
  iapply (stage I V c 2 1 2 3 rfl rfl rfl 3 (by decide) (by decide) (cond3_iff c) (off13_eq c) k0_pay46 rfl (dev14_eq c) rfl) $$ [Ho HS]
  · iframe # ∗
  iintro ⟨Ho, HS⟩
  simp only [Prog.bind_op, Prog.bind_ret]
  ihave HS := (st_open c _) $$ HS
  icases HS with ⟨HS, HO⟩
  iapply (ws I V c 18 (by decide) (staged_hi c 3) rfl) $$ [F18 HO]
  · iframe # ∗
  iintro ⟨H18, S18, HO⟩
  ihave HS := (st_fold c 3) $$ [HS HO]
  · iframe # ∗
  iapply Hc
  iframe # ∗

theorem part17 (w1 w2 w3 w4 w5 w6 w7 w8 : BitVec 32)
    {K : _ → Prog (TpuEff nD τ sig (Elt F) Λ₀ .tc) α} :
    iprop(V.P ∗ levAts (L 8) lv ∗ Out c (gA I c 1) ∗ Half c 18 ∗ St c 3)
      ⊢ iprop(((Out c (gA I c 2) ∗ Done c 18 ∗ Got I c 18 ∗ St c 6) -∗ Run c Q (K ⟨⟩))
        -∗ Run c Q ((k0_part17 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7 w8) >>= K)) := by
  rw [k0_part17_eq_skeleton]; unfold k0_part17_skel
  simp only [Prog.lift, Prog.bind_op, Prog.bind_ret, Prog.pure_eq_ret, Prog.bind_assoc]
  iintro ⟨#HV, #HL, Ho, H18, HS⟩ Hc
  ihave HS := (st_open c _) $$ HS
  icases HS with ⟨HS, HO⟩
  iapply (wl I V c 18 (by decide) (staged_hi c 3)) $$ [H18 HO]
  · iframe # ∗
  iintro ⟨D18, G18, HO⟩
  iapply (add I c 18 64 (lo c + 1 * 64) (off10_64_eq c) _ (gA I c 2) k0_pay47 rfl) $$ [Ho G18]
  · iframe # ∗
  iintro ⟨Ho, G18⟩
  ihave HS := (st_fold c 3) $$ [HS HO]
  · iframe # ∗
  iapply (stage I V c 3 2 3 4 rfl rfl rfl 1 (by decide) (by decide) (cond4_iff c) (off14_eq c) k0_pay48 rfl (dev15_eq c) rfl) $$ [Ho HS]
  · iframe # ∗
  iintro ⟨Ho, HS⟩
  iapply (stage I V c 4 2 4 5 rfl rfl rfl 2 (by decide) (by decide) (cond5_iff c) (off15_eq c) k0_pay49 rfl (dev16_eq c) rfl) $$ [Ho HS]
  · iframe # ∗
  iintro ⟨Ho, HS⟩
  iapply (stage I V c 5 2 5 6 rfl rfl rfl 3 (by decide) (by decide) (cond6_iff c) (off16_eq c) k0_pay50 rfl (dev17_eq c) rfl) $$ [Ho HS]
  · iframe # ∗
  iintro ⟨Ho, HS⟩
  simp only [Prog.bind_op, Prog.bind_ret]
  iapply Hc
  iframe # ∗

theorem part18 (w1 w2 w3 w4 w5 w6 w7 : BitVec 32)
    {K : _ → Prog (TpuEff nD τ sig (Elt F) Λ₀ .tc) α} :
    iprop(V.P ∗ levAts (L 8) lv ∗ Out c (gA I c 2) ∗ Fly c 19 ∗ St c 6)
      ⊢ iprop((∀ w, (Out c (gA I c 3) ∗ Done c 19 ∗ Src I c 19 ∗ Got I c 19 ∗ St c 8) -∗ Run c Q (K w))
        -∗ Run c Q ((k0_part18 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7) >>= K)) := by
  rw [k0_part18_eq_skeleton]; unfold k0_part18_skel
  simp only [Prog.lift, Prog.bind_op, Prog.bind_ret, Prog.pure_eq_ret, Prog.bind_assoc]
  iintro ⟨#HV, #HL, Ho, F19, HS⟩ Hc
  ihave HS := (st_open c _) $$ HS
  icases HS with ⟨HS, HO⟩
  iapply (ws I V c 19 (by decide) (staged_hi c 6) rfl) $$ [F19 HO]
  · iframe # ∗
  iintro ⟨H19, S19, HO⟩
  iapply (wl I V c 19 (by decide) (staged_hi c 6)) $$ [H19 HO]
  · iframe # ∗
  iintro ⟨D19, G19, HO⟩
  iapply (add I c 19 64 (lo c + 2 * 64) (off10_128_eq c) _ (gA I c 3) k0_pay51 rfl) $$ [Ho G19]
  · iframe # ∗
  iintro ⟨Ho, G19⟩
  ihave HS := (st_fold c 6) $$ [HS HO]
  · iframe # ∗
  iapply (stage I V c 6 3 6 7 rfl rfl rfl 1 (by decide) (by decide) (cond7_iff c) (off17_eq c) k0_pay52 rfl (dev18_eq c) rfl) $$ [Ho HS]
  · iframe # ∗
  iintro ⟨Ho, HS⟩
  iapply (stage I V c 7 3 7 8 rfl rfl rfl 2 (by decide) (by decide) (cond8_iff c) (off18_eq c) k0_pay53 rfl (dev19_eq c) rfl) $$ [Ho HS]
  · iframe # ∗
  iintro ⟨Ho, HS⟩
  simp only [Prog.bind_op, Prog.bind_ret]
  iapply Hc
  iframe # ∗

theorem part19 (w1 w2 w3 w4 w5 w6 w7 w8 : BitVec 32)
    {K : _ → Prog (TpuEff nD τ sig (Elt F) Λ₀ .tc) α} :
    iprop(V.P ∗ levAts (L 8) lv ∗ Out c (gA I c 3) ∗ Fly c 20 ∗ St c 8)
      ⊢ iprop((∀ w, (Out c (gA I c 4) ∗ Done c 20 ∗ Src I c 20 ∗ Got I c 20 ∗ St c 10) -∗ Run c Q (K w))
        -∗ Run c Q ((k0_part19 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7 w8) >>= K)) := by
  rw [k0_part19_eq_skeleton]; unfold k0_part19_skel
  simp only [Prog.lift, Prog.bind_op, Prog.bind_ret, Prog.pure_eq_ret, Prog.bind_assoc]
  iintro ⟨#HV, #HL, Ho, F20, HS⟩ Hc
  iapply (stage I V c 8 3 8 9 rfl rfl rfl 3 (by decide) (by decide) (cond9_iff c) (off19_eq c) k0_pay54 rfl (dev20_eq c) rfl) $$ [Ho HS]
  · iframe # ∗
  iintro ⟨Ho, HS⟩
  simp only [Prog.bind_op, Prog.bind_ret]
  ihave HS := (st_open c _) $$ HS
  icases HS with ⟨HS, HO⟩
  iapply (ws I V c 20 (by decide) (staged_hi c 9) rfl) $$ [F20 HO]
  · iframe # ∗
  iintro ⟨H20, S20, HO⟩
  iapply (wl I V c 20 (by decide) (staged_hi c 9)) $$ [H20 HO]
  · iframe # ∗
  iintro ⟨D20, G20, HO⟩
  iapply (add I c 20 64 (lo c + 3 * 64) (off10_192_eq c) _ (gA I c 4) k0_pay55 rfl) $$ [Ho G20]
  · iframe # ∗
  iintro ⟨Ho, G20⟩
  ihave HS := (st_fold c 9) $$ [HS HO]
  · iframe # ∗
  iapply (stage I V c 9 4 9 10 rfl rfl rfl 1 (by decide) (by decide) (cond10_iff c) (off20_eq c) k0_pay56 rfl (dev21_eq c) rfl) $$ [Ho HS]
  · iframe # ∗
  iintro ⟨Ho, HS⟩
  simp only [Prog.bind_op, Prog.bind_ret]
  iapply Hc
  iframe # ∗

theorem part20 (w1 w2 w3 w4 w5 w6 w7 w8 : BitVec 32)
    {K : _ → Prog (TpuEff nD τ sig (Elt F) Λ₀ .tc) α} :
    iprop(V.P ∗ levAts (L 8) lv ∗ Out c (gA I c 4) ∗ St c 10)
      ⊢ iprop((∀ w, (Out c (gB I c 1) ∗ Done c 1 ∗ Src I c 1 ∗ Got I c 1 ∗ Fly c 2 ∗ Fly c 3 ∗ Ow c (left 7)) -∗ Run c Q (K w))
        -∗ Run c Q ((k0_part20 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7 w8) >>= K)) := by
  rw [k0_part20_eq_skeleton]; unfold k0_part20_skel
  simp only [Prog.lift, Prog.bind_op, Prog.bind_ret, Prog.pure_eq_ret, Prog.bind_assoc]
  iintro ⟨#HV, #HL, Ho, HS⟩ Hc
  iapply (stage I V c 10 4 10 11 rfl rfl rfl 2 (by decide) (by decide) (cond11_iff c) (off21_eq c) k0_pay57 rfl (dev22_eq c) rfl) $$ [Ho HS]
  · iframe # ∗
  iintro ⟨Ho, HS⟩
  iapply (stage I V c 11 4 11 12 rfl rfl rfl 3 (by decide) (by decide) (cond12_iff c) (off22_eq c) k0_pay58 rfl (dev23_eq c) rfl) $$ [Ho HS]
  · iframe # ∗
  iintro ⟨Ho, HS⟩
  simp only [Prog.bind_op, Prog.bind_ret]
  ihave HS := (st_end c) $$ HS
  icases HS with ⟨F1, F2, F3, HO⟩
  iapply (ws I V c 1 (by decide) (left_lt 7 (by decide +kernel)) rfl) $$ [F1 HO]
  · iframe # ∗
  iintro ⟨H1, S1, HO⟩
  iapply (wl I V c 1 (by decide) (left_lt 7 (by decide +kernel))) $$ [H1 HO]
  · iframe # ∗
  iintro ⟨D1, G1, HO⟩
  ihave Ho := (Entails.of_eq (show Out c (gA I c 4) = (Out c (gB I c 0) : sProp 𝕄) from rfl)) $$ Ho
  iapply (add I c 1 64 (lo c + zc c * 64) (off23_eq c) (gB I c 0) (gB I c 1) k0_pay59 rfl) $$ [Ho G1]
  · iframe # ∗
  iintro ⟨Ho, G1⟩
  iapply Hc
  iframe # ∗

theorem part21 (w1 w2 w3 : BitVec 32)
    {K : _ → Prog (TpuEff nD τ sig (Elt F) Λ₀ .tc) α} :
    iprop(V.P ∗ levAts (L 8) lv ∗ Out c (gB I c 1) ∗ Fly c 2 ∗ Fly c 3 ∗ Ow c (left 7))
      ⊢ iprop(((Out c (gB I c 2) ∗ Done c 2 ∗ Src I c 2 ∗ Got I c 2 ∗ Half c 3 ∗ Src I c 3 ∗ Ow c (left 7)) -∗ Run c Q (K ⟨⟩))
        -∗ Run c Q ((k0_part21 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part21_eq_skeleton]; unfold k0_part21_skel
  simp only [Prog.lift, Prog.bind_op, Prog.bind_ret, Prog.pure_eq_ret, Prog.bind_assoc]
  iintro ⟨#HV, #HL, Ho, F2, F3, HO⟩ Hc
  iapply (ws I V c 2 (by decide) (left_lt 7 (by decide +kernel)) rfl) $$ [F2 HO]
  · iframe # ∗
  iintro ⟨H2, S2, HO⟩
  iapply (wl I V c 2 (by decide) (left_lt 7 (by decide +kernel))) $$ [H2 HO]
  · iframe # ∗
  iintro ⟨D2, G2, HO⟩
  iapply (add I c 2 64 (lo c + zc c * 64) (off23_eq c) _ (gB I c 2) k0_pay60 rfl) $$ [Ho G2]
  · iframe # ∗
  iintro ⟨Ho, G2⟩
  iapply (ws I V c 3 (by decide) (left_lt 7 (by decide +kernel)) rfl) $$ [F3 HO]
  · iframe # ∗
  iintro ⟨H3, S3, HO⟩
  iapply Hc
  iframe # ∗

theorem part22 (w1 w2 w3 : BitVec 32)
    {K : _ → Prog (TpuEff nD τ sig (Elt F) Λ₀ .tc) α} :
    iprop(V.P ∗ levAts (L 8) lv ∗ Out c (gB I c 2) ∗ Half c 3 ∗ Slot c 4 ∗ Pre c 4 ∗ Ow c (left 7))
      ⊢ iprop((∀ u w, (Out c (gB I c 3) ∗ Done c 3 ∗ Got I c 3 ∗ Fly c 4 ∗ Ow c (left 8)) -∗ Run c Q (K ⟨u, w, k0_pay63 (rd 16 (gB I c 3) (lo c + zc c * 64 + (yc c ^^^ 2) * 16))⟩))
        -∗ Run c Q ((k0_part22 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part22_eq_skeleton]; unfold k0_part22_skel
  simp only [Prog.lift, Prog.bind_op, Prog.bind_ret, Prog.pure_eq_ret, Prog.bind_assoc]
  iintro ⟨#HV, #HL, Ho, H3, T4, P4, HO⟩ Hc
  iapply (wl I V c 3 (by decide) (left_lt 7 (by decide +kernel))) $$ [H3 HO]
  · iframe # ∗
  iintro ⟨D3, G3, HO⟩
  iapply (add I c 3 64 (lo c + zc c * 64) (off23_eq c) _ (gB I c 3) k0_pay61 rfl) $$ [Ho G3]
  · iframe # ∗
  iintro ⟨Ho, G3⟩
  iapply (put I c 4 16 (lo c + zc c * 64 + (yc c ^^^ 1) * 16) (off24_1_eq c) _ k0_pay62 rfl) $$ [Ho T4]
  · iframe # ∗
  iintro ⟨Ho, S4⟩
  iapply (copy I V c 4 (by decide) _ (dev24_eq c) (S := left 7) (S' := left 8) (by decide +kernel) (by decide +kernel) rfl) $$ [S4 P4 HO]
  · isplitr; · iexact HV
    isplitl [P4]; · iexact P4
    isplitl [S4]; · iexact S4
    iexact HO
  iintro ⟨F4, HO⟩
  iapply (out_load c 16 (lo c + zc c * 64 + (yc c ^^^ 2) * 16) (off24_2_eq c) _) $$ Ho; iintro Ho
  iapply Hc
  iframe # ∗

theorem part23 (w1 w2 w3 w4 : BitVec 32)
    {K : _ → Prog (TpuEff nD τ sig (Elt F) Λ₀ .tc) α} :
    iprop(V.P ∗ levAts (L 8) lv ∗ Out c (gB I c 3) ∗ Slot c 5 ∗ Pre c 5 ∗ Slot c 6 ∗ Pre c 6 ∗ Ow c (left 8))
      ⊢ iprop((∀ w, (Out c (gB I c 3) ∗ Fly c 5 ∗ Fly c 6 ∗ Ow c (left 10)) -∗ Run c Q (K w))
        -∗ Run c Q ((k0_part23 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 (k0_pay63 (rd 16 (gB I c 3) (lo c + zc c * 64 + (yc c ^^^ 2) * 16)))) >>= K)) := by
  rw [k0_part23_eq_skeleton]; unfold k0_part23_skel
  simp only [Prog.lift, Prog.bind_op, Prog.bind_ret, Prog.pure_eq_ret, Prog.bind_assoc]
  iintro ⟨#HV, #HL, Ho, T5, P5, T6, P6, HO⟩ Hc
  icases T5 with ⟨%X, T5⟩
  iapply (loadS c 5 fullShare X) $$ T5; iintro T5
  iapply (storeS c 5 X) $$ T5; iintro T5
  ihave S5 := (Entails.of_eq (show owns (c : Thread nD τ) (slS 5) fullShare (k0_pay64 (k0_pay63 (rd 16 (gB I c 3) (lo c + zc c * 64 + (yc c ^^^ 2) * 16)))) = (Full I c 5 : sProp 𝕄) from rfl)) $$ T5
  iapply (copy I V c 5 (by decide) _ (dev25_eq c) (S := left 8) (S' := left 9) (by decide +kernel) (by decide +kernel) rfl) $$ [S5 P5 HO]
  · isplitr; · iexact HV
    isplitl [P5]; · iexact P5
    isplitl [S5]; · iexact S5
    iexact HO
  iintro ⟨F5, HO⟩
  iapply (put I c 6 16 (lo c + zc c * 64 + (yc c ^^^ 3) * 16) (off24_3_eq c) _ k0_pay65 rfl) $$ [Ho T6]
  · iframe # ∗
  iintro ⟨Ho, S6⟩
  iapply (copy I V c 6 (by decide) _ (dev26_eq c) (S := left 9) (S' := left 10) (by decide +kernel) (by decide +kernel) rfl) $$ [S6 P6 HO]
  · isplitr; · iexact HV
    isplitl [P6]; · iexact P6
    isplitl [S6]; · iexact S6
    iexact HO
  iintro ⟨F6, HO⟩
  iapply Hc
  iframe # ∗

theorem part24 (w1 w2 : BitVec 32)
    {K : _ → Prog (TpuEff nD τ sig (Elt F) Λ₀ .tc) α} :
    iprop(V.P ∗ levAts (L 8) lv ∗ Fly c 4 ∗ Fly c 5 ∗ Ow c (left 10))
      ⊢ iprop(((Done c 4 ∗ Src I c 4 ∗ Got I c 4 ∗ Done c 5 ∗ Src I c 5 ∗ Got I c 5 ∗ Ow c (left 10)) -∗ Run c Q (K ⟨⟩))
        -∗ Run c Q ((k0_part24 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 w1 w2) >>= K)) := by
  rw [k0_part24_eq_skeleton]; unfold k0_part24_skel
  simp only [Prog.lift, Prog.bind_op, Prog.bind_ret, Prog.pure_eq_ret, Prog.bind_assoc]
  iintro ⟨#HV, #HL, F4, F5, HO⟩ Hc
  iapply (ws I V c 4 (by decide) (left_lt 10 (by decide +kernel)) rfl) $$ [F4 HO]
  · iframe # ∗
  iintro ⟨H4, S4, HO⟩
  iapply (wl I V c 4 (by decide) (left_lt 10 (by decide +kernel))) $$ [H4 HO]
  · iframe # ∗
  iintro ⟨D4, G4, HO⟩
  iapply (ws I V c 5 (by decide) (left_lt 10 (by decide +kernel)) rfl) $$ [F5 HO]
  · iframe # ∗
  iintro ⟨H5, S5, HO⟩
  iapply (wl I V c 5 (by decide) (left_lt 10 (by decide +kernel))) $$ [H5 HO]
  · iframe # ∗
  iintro ⟨D5, G5, HO⟩
  iapply Hc
  iframe # ∗

theorem part25 (w1 w2 w3 w4 : BitVec 32)
    {K : _ → Prog (TpuEff nD τ sig (Elt F) Λ₀ .tc) α} :
    iprop(V.P ∗ levAts (L 8) lv ∗ Out c (gB I c 3) ∗ Fly c 6 ∗ Got I c 4 ∗ Got I c 5 ∗ Slot c 7 ∗ Ow c (left 10))
      ⊢ iprop((∀ u w, (Out c (gC I c) ∗ Done c 6 ∗ Src I c 6 ∗ Got I c 4 ∗ Got I c 5 ∗ Got I c 6 ∗ Full I c 7 ∗ Ow c (left 10)) -∗ Run c Q (K ⟨u, w⟩))
        -∗ Run c Q ((k0_part25 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4) >>= K)) := by
  rw [k0_part25_eq_skeleton]; unfold k0_part25_skel
  simp only [Prog.lift, Prog.bind_op, Prog.bind_ret, Prog.pure_eq_ret, Prog.bind_assoc]
  iintro ⟨#HV, #HL, Ho, F6, G4, G5, T7, HO⟩ Hc
  iapply (ws I V c 6 (by decide) (left_lt 10 (by decide +kernel)) rfl) $$ [F6 HO]
  · iframe # ∗
  iintro ⟨H6, S6, HO⟩
  iapply (wl I V c 6 (by decide) (left_lt 10 (by decide +kernel))) $$ [H6 HO]
  · iframe # ∗
  iintro ⟨D6, G6, HO⟩
  iapply (out_load c 16 (lo c + zc c * 64 + yc c * 16) (off25_eq c) _) $$ Ho; iintro Ho
  iapply (loadR c 4 fullShare (recvVal I c 4)) $$ G4; iintro G4
  iapply (loadR c 5 fullShare (recvVal I c 5)) $$ G5; iintro G5
  iapply (loadR c 6 fullShare (recvVal I c 6)) $$ G6; iintro G6
  iapply (out_load c 16 (lo c + zc c * 64 + yc c * 16) (off25_eq c) _) $$ Ho; iintro Ho
  iapply (out_store c 16 (lo c + zc c * 64 + yc c * 16) (off25_eq c) _) $$ Ho; iintro Ho
  ihave Ho := (Entails.of_eq (show Out c (wr 16 (gB I c 3) (lo c + zc c * 64 + yc c * 16) (k0_pay66 (rd 16 (gB I c 3) (lo c + zc c * 64 + yc c * 16)) (recvVal I c 4) (recvVal I c 5)
    (recvVal I c 6))) = (Out c (gC I c) : sProp 𝕄) from rfl)) $$ Ho
  iapply (put I c 7 16 (lo c + zc c * 64 + yc c * 16) (off25_eq c) _ k0_pay67 rfl) $$ [Ho T7]
  · iframe # ∗
  iintro ⟨Ho, S7⟩
  iapply Hc
  iframe # ∗

end Cert.Exch
-- ==== Proof.PartsA.lean ====
/-
The barrier, and the two batches of the device's own heads with the first copies.
-/
module

public import proofs.«01_k».proof.Proof.PartsB

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

variable (I : Dev nD → Inp F)
variable {κ : GSem nD τ sig → ℕ}
variable (V : Invs I κ)
variable {α : Type} {Q : α → sProp (MT nD τ sig ℕ (Elt F) ℕ UU ℕ)}
variable (c : Dev nD)

/-! ## The barrier -/

/-- What a signal to the `i`-th neighbour takes. -/
def Sig (i : Fin 7) : sProp 𝕄 :=
  iprop(reached ER (bC (xr c (bm i))) 0 ∗ dutyTok ER (bC (xr c (bm i))) 0 c ∗ bigSep (gset i) (fun k => free c k))

/-- The neighbours from the `n`-th on. -/
def tl (n : ℕ) : Finset (Fin 7) := Finset.univ.filter fun i => n ≤ i.val

theorem tl_zero : tl 0 = Finset.univ := by decide +kernel
theorem tl_seven : tl 7 = ∅ := by decide +kernel

theorem signal (i : Fin 7) (n : Dev nD) (hn : n = xr c (bm i)) {S : Finset (Fin 21)} {T T' : Finset (Fin 7)} (hi : i ∈ T) (hT : T' = T.erase i)
    {W : Waits sig ℕ} {w : ℤ} (hw : w = 1) {K : PUnit → Prog (TpuEff nD τ sig (Elt F) Λ₀ .tc) α} :
    iprop(V.P ∗ Sig c i ∗ owes (c : Thread nD τ) (dueS c S + dueB c T) W)
      ⊢ iprop((owes (c : Thread nD τ) (dueS c S + dueB c T') W -∗ Run c Q (K ⟨⟩)) -∗ Run c Q (.op (.semSignal (n : Thread nD τ) bS w) K)) := by
  unfold Sig
  iintro ⟨HV, ⟨Hr, Ht, Hf⟩, HO⟩ Hk
  iapply (step_signal I V c i n hn hi hT hw) $$ [HV Hr Ht Hf HO]
  · iframe # ∗
  iexact Hk

/-! ## The accumulator's halves -/

/-- The accumulator with the first batch stored. -/
def half (g : Acc F) : Acc F := wr 256 g (hi c) (blk (I c) (1 - xc c))

theorem rd_half (g : Acc F) (j : ℕ) (hj : j < 4) : rd 64 (half I c g) (hi c + j * 64) = rd 64 (gP I c) (hi c + j * 64) := by
  funext i
  have hi0 : (i 0).val < 64 := (i 0).isLt
  have hx := xc_le c
  have hh : hi c = (1 - xc c) * 256 := rfl
  have e : (hi c + j * 64 + (i 0).val) % 512 = hi c + j * 64 + (i 0).val := Nat.mod_eq_of_lt (by omega)
  unfold rd half wr gP
  have hc : hi c ≤ (hi c + j * 64 + (i 0).val) % 512 ∧ (hi c + j * 64 + (i 0).val) % 512 < hi c + 256 := by omega
  rw [dif_pos hc]
  have h1 : ((hi c + j * 64 + (i 0).val) % 512) / 256 = 1 - xc c := by omega
  have h2 : ((hi c + j * 64 + (i 0).val) % 512) % 256 = (hi c + j * 64 + (i 0).val) % 512 - hi c := by omega
  refine congr (congrArg (blk (I c)) h1.symm) (congrFun (congrArg ix2 (Fin.ext h2.symm)) _)

theorem wr_half (g : Acc F) : wr 256 (half I c g) (lo c) (blk (I c) (xc c)) = gP I c := by
  funext i
  have hi0 : (i 0).val < 512 := (i 0).isLt
  have hx := xc_le c
  have hh : hi c = (1 - xc c) * 256 := rfl
  have hl : lo c = xc c * 256 := rfl
  unfold half wr gP
  by_cases h : lo c ≤ (i 0).val ∧ (i 0).val < lo c + 256
  · rw [dif_pos h]
    have h1 : (i 0).val / 256 = xc c := by omega
    have h2 : (i 0).val % 256 = (i 0).val - lo c := by omega
    exact congr (congrArg (blk (I c)) h1.symm) (congrFun (congrArg ix2 (Fin.ext h2.symm)) _)
  · have h' : hi c ≤ (i 0).val ∧ (i 0).val < hi c + 256 := by omega
    rw [dif_neg h, dif_pos h']
    have h1 : (i 0).val / 256 = 1 - xc c := by omega
    have h2 : (i 0).val % 256 = (i 0).val - hi c := by omega
    exact congr (congrArg (blk (I c)) h1.symm) (congrFun (congrArg ix2 (Fin.ext h2.symm)) _)

/-! ## The parts -/

theorem part1 {K : _ → Prog (TpuEff nD τ sig (Elt F) Λ₀ .tc) α} :
    iprop(∀ a₁ a₂ a₃ a₄ a₅ a₆ a₇ a₈, Run c Q (K ⟨c, a₁, a₂, a₃, a₄, a₅, a₆, a₇, a₈⟩)) ⊢ Run c Q ((k0_part1 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3) >>= K) := by
  rw [k0_part1_eq_skeleton]; unfold k0_part1_skel
  simp only [semSignalWord, semWaitWord, Prog.lift, Prog.bind_op, Prog.bind_ret, Prog.pure_eq_ret, Prog.bind_assoc, wp_deviceId]
  iintro H
  iapply H

theorem part2 (w1 w2 w3 w4 w5 w6 : BitVec 32) (w7 : BitVec 1) {W : Waits sig ℕ} {K : _ → Prog (TpuEff nD τ sig (Elt F) Λ₀ .tc) α} :
    iprop(V.P ∗ Sig c 0 ∗ owes (c : Thread nD τ) (dueS c (left 0) + dueB c (tl 0)) W)
      ⊢ iprop((∀ a₁ a₂ a₃ a₄, owes (c : Thread nD τ) (dueS c (left 0) + dueB c (tl 1)) W -∗ Run c Q (K ⟨a₁, a₂, SemArray.scalar (sig.barrier 0 rfl), a₃, a₄⟩))
        -∗ Run c Q ((k0_part2 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5 w6 w7) >>= K)) := by
  rw [k0_part2_eq_skeleton]; unfold k0_part2_skel
  simp only [semSignalWord, semWaitWord, Prog.lift, Prog.bind_op, Prog.bind_ret, Prog.pure_eq_ret, Prog.bind_assoc, wp_deviceId]
  iintro ⟨#HV, B0, HO⟩ Hc
  iapply (signal I V c 0 _ (dev1_eq c) (S := left 0) (T := tl 0) (T' := tl 1) (by decide +kernel) (by decide +kernel) (by decide)) $$ [B0 HO]
  · iframe # ∗
  iintro HO
  iapply Hc
  iframe # ∗

theorem part3 (w1 w2 w3 w4 : BitVec 32) {W : Waits sig ℕ} {K : _ → Prog (TpuEff nD τ sig (Elt F) Λ₀ .tc) α} :
    iprop(V.P ∗ levAts (L 8) lv ∗ Sig c 1 ∗ Sig c 2 ∗ Sig c 3 ∗ Sig c 4 ∗ Sig c 5 ∗ Sig c 6 ∗ owes (c : Thread nD τ) (dueS c (left 0) + dueB c (tl 1)) W
        ∗ cred (tallyAt (bC c) 1 7) ∗ atPos ER (bC c) 0 ∅ 0 ∗ SQ I c ∗ SW I c)
      ⊢ iprop((∀ u w, (Ow c (left 0) ∗ atPos ER (bC c) (0 + 1) ∅ 0 ∗ bigSep ex (fun k => free (peer c k) k) ∗ SQ I c ∗ SW I c)
            -∗ Run c Q (K ⟨k0_pay2 (I c).wq, k0_pay3 (I c).wo, u, w⟩))
        -∗ Run c Q ((k0_part3 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 (SemArray.scalar (sig.barrier 0 rfl)) w3 w4) >>= K)) := by
  rw [k0_part3_eq_skeleton]; unfold k0_part3_skel
  simp only [semSignalWord, semWaitWord, Prog.lift, Prog.bind_op, Prog.bind_ret, Prog.pure_eq_ret, Prog.bind_assoc, wp_deviceId]
  iintro ⟨#HV, #HL, B1, B2, B3, B4, B5, B6, HO, Hcr, Hat, Hq, Hw⟩ Hc
  iapply (signal I V c 1 _ (dev2_eq c) (S := left 0) (T := tl 1) (T' := tl 2) (by decide +kernel) (by decide +kernel) (by decide)) $$ [B1 HO]
  · iframe # ∗
  iintro HO
  iapply (signal I V c 2 _ (dev3_eq c) (S := left 0) (T := tl 2) (T' := tl 3) (by decide +kernel) (by decide +kernel) (by decide)) $$ [B2 HO]
  · iframe # ∗
  iintro HO
  iapply (signal I V c 3 _ (dev4_eq c) (S := left 0) (T := tl 3) (T' := tl 4) (by decide +kernel) (by decide +kernel) (by decide)) $$ [B3 HO]
  · iframe # ∗
  iintro HO
  iapply (signal I V c 4 _ (dev5_eq c) (S := left 0) (T := tl 4) (T' := tl 5) (by decide +kernel) (by decide +kernel) (by decide)) $$ [B4 HO]
  · iframe # ∗
  iintro HO
  iapply (signal I V c 5 _ (dev6_eq c) (S := left 0) (T := tl 5) (T' := tl 6) (by decide +kernel) (by decide +kernel) (by decide)) $$ [B5 HO]
  · iframe # ∗
  iintro HO
  iapply (signal I V c 6 _ (dev7_eq c) (S := left 0) (T := tl 6) (T' := tl 7) (by decide +kernel) (by decide +kernel) (by decide)) $$ [B6 HO]
  · iframe # ∗
  iintro HO
  rw [tl_seven]
  iapply (step_barrier I V c (S := left 0) (by decide)) $$ [Hcr Hat HO]
  · iframe # ∗
  iintro ⟨HO, Hat, Hf⟩
  iapply (q_load I c) $$ Hq; iintro Hq
  iapply (w_load I c) $$ Hw; iintro Hw
  iapply Hc
  iframe # ∗

theorem part4 (w1 : BitVec 32) (a93 : FVec F S768x512 .bf16)
    {K : _ → Prog (TpuEff nD τ sig (Elt F) Λ₀ .tc) α} :
    iprop(V.P ∗ levAts (L 8) lv ∗ SX I c ∗ SK I c ∗ SV I c)
      ⊢ iprop(((SX I c ∗ SK I c ∗ SV I c) -∗ Run c Q (K ⟨k0_pay4 a93 (xb (I c).x (1 - xc c)), k0_pay5 a93 (xb (I c).x (1 - xc c)) (kb (I c).k (1 - xc c) 0) (kb (I c).v (1 - xc c) 0), k0_pay6 a93 (xb (I c).x (1 - xc c)) (kb (I c).k (1 - xc c) 0), k0_pay7 a93 (xb (I c).x (1 - xc c)) (kb (I c).k (1 - xc c) 0)⟩))
        -∗ Run c Q ((k0_part4 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c a93 w1) >>= K)) := by
  rw [k0_part4_eq_skeleton]; unfold k0_part4_skel
  simp only [Prog.lift, Prog.bind_op, Prog.bind_ret, Prog.pure_eq_ret, Prog.bind_assoc]
  iintro ⟨#HV, #HL, Hx, Hk, Hv⟩ Hc
  iapply (x_load I c (off1_eq c)) $$ Hx; iintro Hx
  iapply (k_load I c (off2_eq c)) $$ Hk; iintro Hk
  iapply (v_load I c (off2_eq c)) $$ Hv; iintro Hv
  iapply (k_load I c (off2_eq c)) $$ Hk; iintro Hk
  iapply Hc
  iframe # ∗

theorem part5 (w1 : BitVec 32) (a101 : FVec F S256x512 .f32) (a136 : FVec F S256x512 .f32) (a137 : FVec F S256 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay8 a136 a137 (kb (I c).v (1 - xc c) 0), k0_pay9 a101 (kb (I c).k (1 - xc c) 0) (kb (I c).v (1 - xc c) 0), k0_pay10 a101 (kb (I c).k (1 - xc c) 0), k0_pay11 a101 (kb (I c).k (1 - xc c) 0)⟩))
        -∗ Run c Q ((k0_part5 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a101 a136 a137) >>= K)) := by
  rw [k0_part5_eq_skeleton]; unfold k0_part5_skel
  simp only [Prog.lift, Prog.bind_op, Prog.bind_ret, Prog.pure_eq_ret, Prog.bind_assoc]
  iintro ⟨#HV, #HL, Hk, Hv⟩ Hc
  iapply (v_load I c (off2_eq c)) $$ Hv; iintro Hv
  iapply (k_load I c (off2_eq c)) $$ Hk; iintro Hk
  iapply (v_load I c (off2_eq c)) $$ Hv; iintro Hv
  iapply (k_load I c (off2_eq c)) $$ Hk; iintro Hk
  iapply Hc
  iframe # ∗

theorem part6 (w1 : BitVec 32) (a101 : FVec F S256x512 .f32) (a175 : FVec F S256x512 .f32) (a176 : FVec F S256 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay12 a175 a176 (kb (I c).v (1 - xc c) 0), k0_pay13 a101 (kb (I c).k (1 - xc c) 1) (kb (I c).v (1 - xc c) 1), k0_pay14 a101, k0_pay15 (kb (I c).k (1 - xc c) 1), (constant S256x512 .f32 0x00000000#32)⟩))
        -∗ Run c Q ((k0_part6 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a101 a175 a176) >>= K)) := by
  rw [k0_part6_eq_skeleton]; unfold k0_part6_skel
  simp only [Prog.lift, Prog.bind_op, Prog.bind_ret, Prog.pure_eq_ret, Prog.bind_assoc]
  iintro ⟨#HV, #HL, Hk, Hv⟩ Hc
  iapply (v_load I c (off2_eq c)) $$ Hv; iintro Hv
  iapply (k_load I c (off3_eq c)) $$ Hk; iintro Hk
  iapply (v_load I c (off3_eq c)) $$ Hv; iintro Hv
  iapply (k_load I c (off3_eq c)) $$ Hk; iintro Hk
  iapply Hc
  iframe # ∗

theorem part7 (w1 : BitVec 32) (a101 : FVec F S256x512 .f32) (a213 : FVec F S256x64 .bf16) (a216 : FVec F S512x64 .bf16) (cst : FVec F S256x512 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay16 a213 a216 cst (kb (I c).v (1 - xc c) 1), k0_pay17 a101 (kb (I c).k (1 - xc c) 1) (kb (I c).v (1 - xc c) 1), k0_pay18 a101⟩))
        -∗ Run c Q ((k0_part7 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a101 a213 a216 cst) >>= K)) := by
  rw [k0_part7_eq_skeleton]; unfold k0_part7_skel
  simp only [Prog.lift, Prog.bind_op, Prog.bind_ret, Prog.pure_eq_ret, Prog.bind_assoc]
  iintro ⟨#HV, #HL, Hk, Hv⟩ Hc
  iapply (v_load I c (off3_eq c)) $$ Hv; iintro Hv
  iapply (k_load I c (off3_eq c)) $$ Hk; iintro Hk
  iapply (v_load I c (off3_eq c)) $$ Hv; iintro Hv
  iapply Hc
  iframe # ∗

theorem part8 (w1 w2 : BitVec 32) (a95 : FVec F S512x768 .bf16) (a123 : FVec F S256x64 .f32) (a145 : FVec F S256x64 .f32) (a167 : FVec F S256x64 .f32) (a189 : FVec F S256x64 .f32) (a211 : FVec F S256x64 .f32) (a233 : FVec F S256x64 .f32) (a255 : FVec F S256x64 .f32) (a257 : FVec F S256x64 .bf16) (g : Acc F) (hP : k0_pay19 a95 a123 a145 a167 a189 a211 a233 a255 a257 (kb (I c).k (1 - xc c) 1) (kb (I c).v (1 - xc c) 1) = blk (I c) (1 - xc c))
    {K : _ → Prog (TpuEff nD τ sig (Elt F) Λ₀ .tc) α} :
    iprop(V.P ∗ levAts (L 8) lv ∗ SK I c ∗ SV I c ∗ Out c (g) ∗ Slot c 17)
      ⊢ iprop((∀ u w, (SK I c ∗ SV I c ∗ Out c (half I c g) ∗ Full I c 17) -∗ Run c Q (K ⟨u, w⟩))
        -∗ Run c Q ((k0_part8 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a95 w2 a123 a145 a167 a189 a211 a233 a255 a257) >>= K)) := by
  rw [k0_part8_eq_skeleton]; unfold k0_part8_skel
  simp only [Prog.lift, Prog.bind_op, Prog.bind_ret, Prog.pure_eq_ret, Prog.bind_assoc]
  iintro ⟨#HV, #HL, Hk, Hv, Ho, T17⟩ Hc
  iapply (k_load I c (off3_eq c)) $$ Hk; iintro Hk
  iapply (v_load I c (off3_eq c)) $$ Hv; iintro Hv
  iapply (out_load c 256 (hi c) (off4_eq c) g) $$ Ho; iintro Ho
  iapply (out_store c 256 (hi c) (off4_eq c) g) $$ Ho; iintro Ho
  rw [hP]
  ihave Ho := (Entails.of_eq (show Out c (wr 256 g (hi c) (blk (I c) (1 - xc c))) = (Out c (half I c g) : sProp 𝕄) from rfl)) $$ Ho
  iapply (put I c 17 64 (hi c + 0 * 64) (off5_0_eq c) (half I c g) k0_pay20 (by rw [rd_half I c g 0 (by decide)]; rfl)) $$ [Ho T17]
  · iframe # ∗
  iintro ⟨Ho, S17⟩
  iapply Hc
  iframe # ∗

theorem part9 (w1 w2 w3 : BitVec 32) (g : Acc F)
    {K : _ → Prog (TpuEff nD τ sig (Elt F) Λ₀ .tc) α} :
    iprop(V.P ∗ levAts (L 8) lv ∗ Out c (half I c g) ∗ Full I c 17 ∗ Slot c 18 ∗ Slot c 19 ∗ Pre c 17 ∗ Pre c 18 ∗ Ow c (left 0))
      ⊢ iprop((∀ w, (Out c (half I c g) ∗ Fly c 17 ∗ Fly c 18 ∗ Full I c 19 ∗ Ow c (left 2)) -∗ Run c Q (K w))
        -∗ Run c Q ((k0_part9 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part9_eq_skeleton]; unfold k0_part9_skel
  simp only [Prog.lift, Prog.bind_op, Prog.bind_ret, Prog.pure_eq_ret, Prog.bind_assoc]
  iintro ⟨#HV, #HL, Ho, S17, T18, T19, P17, P18, HO⟩ Hc
  iapply (copy I V c 17 (by decide) _ (dev8_eq c) (S := left 0) (S' := left 1) (by decide +kernel) (by decide +kernel) rfl) $$ [S17 P17 HO]
  · isplitr; · iexact HV
    isplitl [P17]; · iexact P17
    isplitl [S17]; · iexact S17
    iexact HO
  iintro ⟨F17, HO⟩
  iapply (put I c 18 64 (hi c + 1 * 64) (off5_64_eq c) (half I c g) k0_pay21 (by rw [rd_half I c g 1 (by decide)]; rfl)) $$ [Ho T18]
  · iframe # ∗
  iintro ⟨Ho, S18⟩
  iapply (copy I V c 18 (by decide) _ (dev9_eq c) (S := left 1) (S' := left 2) (by decide +kernel) (by decide +kernel) rfl) $$ [S18 P18 HO]
  · isplitr; · iexact HV
    isplitl [P18]; · iexact P18
    isplitl [S18]; · iexact S18
    iexact HO
  iintro ⟨F18, HO⟩
  iapply (put I c 19 64 (hi c + 2 * 64) (off5_128_eq c) (half I c g) k0_pay22 (by rw [rd_half I c g 2 (by decide)]; rfl)) $$ [Ho T19]
  · iframe # ∗
  iintro ⟨Ho, S19⟩
  iapply Hc
  iframe # ∗

theorem part10 (w1 w2 w3 w4 : BitVec 32) (a93 : FVec F S768x512 .bf16) (g : Acc F)
    {K : _ → Prog (TpuEff nD τ sig (Elt F) Λ₀ .tc) α} :
    iprop(V.P ∗ levAts (L 8) lv ∗ Out c (half I c g) ∗ Full I c 19 ∗ Slot c 20 ∗ Pre c 19 ∗ Pre c 20 ∗ SX I c ∗ SK I c ∗ Ow c (left 2))
      ⊢ iprop(((Out c (half I c g) ∗ Fly c 19 ∗ Fly c 20 ∗ SX I c ∗ SK I c ∗ Ow c (left 4)) -∗ Run c Q (K ⟨k0_pay24 a93 (xb (I c).x (xc c)), k0_pay25 a93 (xb (I c).x (xc c)), k0_pay26 (kb (I c).k (xc c) 0), (constant S256x512 .f32 0x00000000#32)⟩))
        -∗ Run c Q ((k0_part10 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a93 w2 w3 w4) >>= K)) := by
  rw [k0_part10_eq_skeleton]; unfold k0_part10_skel
  simp only [Prog.lift, Prog.bind_op, Prog.bind_ret, Prog.pure_eq_ret, Prog.bind_assoc]
  iintro ⟨#HV, #HL, Ho, S19, T20, P19, P20, Hx, Hk, HO⟩ Hc
  iapply (copy I V c 19 (by decide) _ (dev10_eq c) (S := left 2) (S' := left 3) (by decide +kernel) (by decide +kernel) rfl) $$ [S19 P19 HO]
  · isplitr; · iexact HV
    isplitl [P19]; · iexact P19
    isplitl [S19]; · iexact S19
    iexact HO
  iintro ⟨F19, HO⟩
  iapply (put I c 20 64 (hi c + 3 * 64) (off5_192_eq c) (half I c g) k0_pay23 (by rw [rd_half I c g 3 (by decide)]; rfl)) $$ [Ho T20]
  · iframe # ∗
  iintro ⟨Ho, S20⟩
  iapply (copy I V c 20 (by decide) _ (dev11_eq c) (S := left 3) (S' := left 4) (by decide +kernel) (by decide +kernel) rfl) $$ [S20 P20 HO]
  · isplitr; · iexact HV
    isplitl [P20]; · iexact P20
    isplitl [S20]; · iexact S20
    iexact HO
  iintro ⟨F20, HO⟩
  iapply (x_load I c (off6_eq c)) $$ Hx; iintro Hx
  iapply (k_load I c (off7_eq c)) $$ Hk; iintro Hk
  iapply Hc
  iframe # ∗

theorem part11 (w1 : BitVec 32) (a353 : FVec F S256x512 .f32) (a355 : FVec F S256x64 .bf16) (a358 : FVec F S512x64 .bf16) (cst : FVec F S256x512 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay27 a355 a358 cst (kb (I c).v (xc c) 0), k0_pay28 a353 (kb (I c).k (xc c) 0) (kb (I c).v (xc c) 0), k0_pay29 a353⟩))
        -∗ Run c Q ((k0_part11 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a353 a355 a358 cst) >>= K)) := by
  rw [k0_part11_eq_skeleton]; unfold k0_part11_skel
  simp only [Prog.lift, Prog.bind_op, Prog.bind_ret, Prog.pure_eq_ret, Prog.bind_assoc]
  iintro ⟨#HV, #HL, Hk, Hv⟩ Hc
  iapply (v_load I c (off7_eq c)) $$ Hv; iintro Hv
  iapply (k_load I c (off7_eq c)) $$ Hk; iintro Hk
  iapply (v_load I c (off7_eq c)) $$ Hv; iintro Hv
  iapply Hc
  iframe # ∗

theorem part12 (w1 : BitVec 32) (a353 : FVec F S256x512 .f32) (a399 : FVec F S256x64 .bf16)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay30 a399 (kb (I c).k (xc c) 0) (kb (I c).v (xc c) 0), k0_pay32 a353 (kb (I c).k (xc c) 0), k0_pay33 (kb (I c).v (xc c) 0), k0_pay34 a353 (kb (I c).k (xc c) 0), (constant S256x64 .f32 0x00000000#32)⟩))
        -∗ Run c Q ((k0_part12 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a353 a399) >>= K)) := by
  rw [k0_part12_eq_skeleton]; unfold k0_part12_skel
  simp only [Prog.lift, Prog.bind_op, Prog.bind_ret, Prog.pure_eq_ret, Prog.bind_assoc]
  iintro ⟨#HV, #HL, Hk, Hv⟩ Hc
  iapply (k_load I c (off7_eq c)) $$ Hk; iintro Hk
  iapply (v_load I c (off7_eq c)) $$ Hv; iintro Hv
  iapply (k_load I c (off7_eq c)) $$ Hk; iintro Hk
  iapply (v_load I c (off7_eq c)) $$ Hv; iintro Hv
  iapply Hc
  iframe # ∗

theorem part13 (w1 : BitVec 32) (a353 : FVec F S256x512 .f32) (a434 : FVec F S256x1 .f32) (a437 : FVec F S512x64 .bf16) (a438 : FVec F S256x512 .bf16) (cst : FVec F S256x64 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay35 a434 a437 a438 cst, k0_pay36 a353 (kb (I c).k (xc c) 1) (kb (I c).v (xc c) 1), k0_pay37 a353 (kb (I c).k (xc c) 1), k0_pay38 a353 (kb (I c).k (xc c) 1)⟩))
        -∗ Run c Q ((k0_part13 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a353 a434 a437 a438 cst) >>= K)) := by
  rw [k0_part13_eq_skeleton]; unfold k0_part13_skel
  simp only [Prog.lift, Prog.bind_op, Prog.bind_ret, Prog.pure_eq_ret, Prog.bind_assoc]
  iintro ⟨#HV, #HL, Hk, Hv⟩ Hc
  iapply (k_load I c (off8_eq c)) $$ Hk; iintro Hk
  iapply (v_load I c (off8_eq c)) $$ Hv; iintro Hv
  iapply (k_load I c (off8_eq c)) $$ Hk; iintro Hk
  iapply Hc
  iframe # ∗

theorem part14 (w1 : BitVec 32) (a353 : FVec F S256x512 .f32) (a476 : FVec F S256x512 .f32) (a478 : FVec F S256x1 .f32)
    {K : _ → Prog (TpuEff nD τ sig (Elt F) Λ₀ .tc) α} :
    iprop(V.P ∗ levAts (L 8) lv ∗ SK I c ∗ SV I c)
      ⊢ iprop(((SK I c ∗ SV I c) -∗ Run c Q (K ⟨k0_pay39 a476 a478 (kb (I c).v (xc c) 1), k0_pay40 a353 (kb (I c).k (xc c) 1) (kb (I c).v (xc c) 1), k0_pay41 a353 (kb (I c).k (xc c) 1)⟩))
        -∗ Run c Q ((k0_part14 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 a353 a476 a478) >>= K)) := by
  rw [k0_part14_eq_skeleton]; unfold k0_part14_skel
  simp only [Prog.lift, Prog.bind_op, Prog.bind_ret, Prog.pure_eq_ret, Prog.bind_assoc]
  iintro ⟨#HV, #HL, Hk, Hv⟩ Hc
  iapply (v_load I c (off8_eq c)) $$ Hv; iintro Hv
  iapply (k_load I c (off8_eq c)) $$ Hk; iintro Hk
  iapply (v_load I c (off8_eq c)) $$ Hv; iintro Hv
  iapply (k_load I c (off8_eq c)) $$ Hk; iintro Hk
  iapply Hc
  iframe # ∗

theorem part15 (w1 w2 w3 w4 : BitVec 32) (a95 : FVec F S512x768 .bf16) (a375 : FVec F S256x64 .f32) (a397 : FVec F S256x64 .f32) (a419 : FVec F S256x64 .f32) (a441 : FVec F S256x64 .f32) (a463 : FVec F S256x64 .f32) (a485 : FVec F S256x64 .f32) (a507 : FVec F S256x64 .f32) (a519 : FVec F S256x512 .f32) (g : Acc F) (hP : k0_pay42 a95 a375 a397 a419 a441 a463 a485 a507 a519 (kb (I c).v (xc c) 1) = blk (I c) (xc c))
    {K : _ → Prog (TpuEff nD τ sig (Elt F) Λ₀ .tc) α} :
    iprop(V.P ∗ levAts (L 8) lv ∗ SV I c ∗ Out c (half I c g) ∗ Fly c 17 ∗ Ow c (left 4))
      ⊢ iprop((∀ u₁ u₂ u₃ u₄ u₅ u₆ u₇, (SV I c ∗ Out c (gA I c 0) ∗ Half c 17 ∗ Src I c 17 ∗ Ow c (left 4)) -∗ Run c Q (K ⟨u₁, u₂, u₃, u₄, u₅, u₆, u₇⟩))
        -∗ Run c Q ((k0_part15 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 a95 w4 a375 a397 a419 a441 a463 a485 a507 a519) >>= K)) := by
  rw [k0_part15_eq_skeleton]; unfold k0_part15_skel
  simp only [Prog.lift, Prog.bind_op, Prog.bind_ret, Prog.pure_eq_ret, Prog.bind_assoc]
  iintro ⟨#HV, #HL, Hv, Ho, F17, HO⟩ Hc
  iapply (v_load I c (off8_eq c)) $$ Hv; iintro Hv
  iapply (out_load c 256 (lo c) (off9_eq c) (half I c g)) $$ Ho; iintro Ho
  iapply (out_store c 256 (lo c) (off9_eq c) (half I c g)) $$ Ho; iintro Ho
  rw [hP, wr_half]
  ihave Ho := (Entails.of_eq (show Out c (gP I c) = (Out c (gA I c 0) : sProp 𝕄) from rfl)) $$ Ho
  iapply (ws I V c 17 (by decide) (left_lt 4 (by decide +kernel)) rfl) $$ [F17 HO]
  · iframe # ∗
  iintro ⟨H17, S17, HO⟩
  iapply Hc
  iframe # ∗

end Cert.Exch
-- ==== Proof.PartsC.lean ====
/-
The way back: the steps from the summed rows to the whole result.
-/
module

public import proofs.«01_k».proof.Proof.PartsB

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

variable (I : Dev nD → Inp F)
variable {κ : GSem nD τ sig → ℕ}
variable (V : Invs I κ)
variable {α : Type} {Q : α → sProp (MT nD τ sig ℕ (Elt F) ℕ UU ℕ)}
variable (c : Dev nD)

omit [FloatOps F] in
/-- A share of what a memref holds, in halves. -/
theorem owns_halves {sp : Space} {sh : Shape} {e : EltTy} (m : Memref sig .tc sp sh e) (q : PosShare TreeShare) (X : sh.Idx → Elt F e) :
    (owns (c : Thread nD τ) m q X : sProp 𝕄) = iprop(owns (c : Thread nD τ) m q.left X ∗ owns (c : Thread nD τ) m q.right X) :=
  BI.Entails.antisymm (ownsSat_share (c : Thread nD τ) m (· = X) (PosShare.mem_left_op_right q)).1 (ownsSat_share (c : Thread nD τ) m (· = X) (PosShare.mem_left_op_right q)).2

/-- The slot that three copies read, by the shares that they take. -/
theorem full7 : (Full I c 7 : sProp 𝕄) = iprop(Src I c 7 ∗ Src I c 8 ∗ Src I c 9) := by
  refine (owns_halves c (slS 7) fullShare _).trans ?_
  rw [owns_halves c (slS 7) (fullShare : PosShare TreeShare).right]; rfl
theorem full10 : (Full I c 10 : sProp 𝕄) = iprop(Src I c 10 ∗ Src I c 11 ∗ Src I c 12) := by
  refine (owns_halves c (slS 10) fullShare _).trans ?_
  rw [owns_halves c (slS 10) (fullShare : PosShare TreeShare).right]; rfl

theorem part26 (w1 w2 : BitVec 32)
    {K : _ → Prog (TpuEff nD τ sig (Elt F) Λ₀ .tc) α} :
    iprop(V.P ∗ levAts (L 8) lv ∗ Src I c 7 ∗ Src I c 8 ∗ Src I c 9 ∗ Pre c 7 ∗ Pre c 8 ∗ Pre c 9 ∗ Ow c (left 10))
      ⊢ iprop((∀ u w, (Fly c 7 ∗ Fly c 8 ∗ Fly c 9 ∗ Ow c (left 13)) -∗ Run c Q (K ⟨u, w⟩))
        -∗ Run c Q ((k0_part26 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2) >>= K)) := by
  rw [k0_part26_eq_skeleton]; unfold k0_part26_skel
  simp only [Prog.lift, Prog.bind_op, Prog.bind_ret, Prog.pure_eq_ret, Prog.bind_assoc]
  iintro ⟨#HV, #HL, S7, S8, S9, P7, P8, P9, HO⟩ Hc
  iapply (copy I V c 7 (by decide) _ (dev27_eq c) (S := left 10) (S' := left 11) (by decide +kernel) (by decide +kernel) rfl) $$ [S7 P7 HO]
  · isplitr; · iexact HV
    isplitl [P7]; · iexact P7
    isplitl [S7]; · iexact S7
    iexact HO
  iintro ⟨F7, HO⟩
  iapply (copy I V c 8 (by decide) _ (dev28_eq c) (S := left 11) (S' := left 12) (by decide +kernel) (by decide +kernel) rfl) $$ [S8 P8 HO]
  · isplitr; · iexact HV
    isplitl [P8]; · iexact P8
    isplitl [S8]; · iexact S8
    iexact HO
  iintro ⟨F8, HO⟩
  iapply (copy I V c 9 (by decide) _ (dev29_eq c) (S := left 12) (S' := left 13) (by decide +kernel) (by decide +kernel) rfl) $$ [S9 P9 HO]
  · isplitr; · iexact HV
    isplitl [P9]; · iexact P9
    isplitl [S9]; · iexact S9
    iexact HO
  iintro ⟨F9, HO⟩
  iapply Hc
  iframe # ∗

theorem part27 (w1 w2 : BitVec 32)
    {K : _ → Prog (TpuEff nD τ sig (Elt F) Λ₀ .tc) α} :
    iprop(V.P ∗ levAts (L 8) lv ∗ Fly c 7 ∗ Fly c 8 ∗ Fly c 9 ∗ Ow c (left 13))
      ⊢ iprop(((Done c 7 ∗ Src I c 7 ∗ Got I c 7 ∗ Done c 8 ∗ Src I c 8 ∗ Got I c 8 ∗ Half c 9 ∗ Src I c 9 ∗ Ow c (left 13)) -∗ Run c Q (K ⟨⟩))
        -∗ Run c Q ((k0_part27 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 w1 w2) >>= K)) := by
  rw [k0_part27_eq_skeleton]; unfold k0_part27_skel
  simp only [Prog.lift, Prog.bind_op, Prog.bind_ret, Prog.pure_eq_ret, Prog.bind_assoc]
  iintro ⟨#HV, #HL, F7, F8, F9, HO⟩ Hc
  iapply (ws I V c 7 (by decide) (left_lt 13 (by decide +kernel)) rfl) $$ [F7 HO]
  · iframe # ∗
  iintro ⟨H7, S7, HO⟩
  iapply (wl I V c 7 (by decide) (left_lt 13 (by decide +kernel))) $$ [H7 HO]
  · iframe # ∗
  iintro ⟨D7, G7, HO⟩
  iapply (ws I V c 8 (by decide) (left_lt 13 (by decide +kernel)) rfl) $$ [F8 HO]
  · iframe # ∗
  iintro ⟨H8, S8, HO⟩
  iapply (wl I V c 8 (by decide) (left_lt 13 (by decide +kernel))) $$ [H8 HO]
  · iframe # ∗
  iintro ⟨D8, G8, HO⟩
  iapply (ws I V c 9 (by decide) (left_lt 13 (by decide +kernel)) rfl) $$ [F9 HO]
  · iframe # ∗
  iintro ⟨H9, S9, HO⟩
  iapply Hc
  iframe # ∗

theorem part28 (w1 w2 w3 w4 : BitVec 32)
    {K : _ → Prog (TpuEff nD τ sig (Elt F) Λ₀ .tc) α} :
    iprop(V.P ∗ levAts (L 8) lv ∗ Out c (gC I c) ∗ Half c 9 ∗ Got I c 7 ∗ Got I c 8 ∗ Ow c (left 13))
      ⊢ iprop((∀ u w, (Out c (gD I c 3) ∗ Done c 9 ∗ Got I c 7 ∗ Got I c 8 ∗ Got I c 9 ∗ Ow c (left 13)) -∗ Run c Q (K ⟨u, w⟩))
        -∗ Run c Q ((k0_part28 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4) >>= K)) := by
  rw [k0_part28_eq_skeleton]; unfold k0_part28_skel
  simp only [Prog.lift, Prog.bind_op, Prog.bind_ret, Prog.pure_eq_ret, Prog.bind_assoc]
  iintro ⟨#HV, #HL, Ho, H9, G7, G8, HO⟩ Hc
  iapply (wl I V c 9 (by decide) (left_lt 13 (by decide +kernel))) $$ [H9 HO]
  · iframe # ∗
  iintro ⟨D9, G9, HO⟩
  ihave Ho := (Entails.of_eq (show Out c (gC I c) = (Out c (gD I c 0) : sProp 𝕄) from rfl)) $$ Ho
  iapply (fill I c 7 16 (lo c + zc c * 64 + (yc c ^^^ 1) * 16) (off26_1_eq c) (gD I c 0) (gD I c 1) k0_pay68 rfl) $$ [Ho G7]
  · iframe # ∗
  iintro ⟨Ho, G7⟩
  iapply (fill I c 8 16 (lo c + zc c * 64 + (yc c ^^^ 2) * 16) (off26_2_eq c) (gD I c 1) (gD I c 2) k0_pay69 rfl) $$ [Ho G8]
  · iframe # ∗
  iintro ⟨Ho, G8⟩
  iapply (fill I c 9 16 (lo c + zc c * 64 + (yc c ^^^ 3) * 16) (off26_3_eq c) (gD I c 2) (gD I c 3) k0_pay70 rfl) $$ [Ho G9]
  · iframe # ∗
  iintro ⟨Ho, G9⟩
  iapply Hc
  iframe # ∗

theorem part29 (w1 w2 w3 : BitVec 32)
    {K : _ → Prog (TpuEff nD τ sig (Elt F) Λ₀ .tc) α} :
    iprop(V.P ∗ levAts (L 8) lv ∗ Out c (gD I c 3) ∗ Slot c 13 ∗ Pre c 13 ∗ Slot c 10 ∗ Pre c 10 ∗ Ow c (left 13))
      ⊢ iprop((∀ u w, (Out c (gD I c 3) ∗ Fly c 13 ∗ Fly c 10 ∗ Src I c 11 ∗ Src I c 12 ∗ Ow c (left 15)) -∗ Run c Q (K ⟨u, w⟩))
        -∗ Run c Q ((k0_part29 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part29_eq_skeleton]; unfold k0_part29_skel
  simp only [Prog.lift, Prog.bind_op, Prog.bind_ret, Prog.pure_eq_ret, Prog.bind_assoc]
  iintro ⟨#HV, #HL, Ho, T13, P13, T10, P10, HO⟩ Hc
  iapply (put I c 13 64 (lo c + zc c * 64) (off27_eq c) _ k0_pay71 rfl) $$ [Ho T13]
  · iframe # ∗
  iintro ⟨Ho, S13⟩
  iapply (copy I V c 13 (by decide) _ (dev30_eq c) (S := left 13) (S' := left 14) (by decide +kernel) (by decide +kernel) rfl) $$ [S13 P13 HO]
  · isplitr; · iexact HV
    isplitl [P13]; · iexact P13
    isplitl [S13]; · iexact S13
    iexact HO
  iintro ⟨F13, HO⟩
  iapply (put I c 10 64 (lo c + zc c * 64) (off27_eq c) _ k0_pay72 rfl) $$ [Ho T10]
  · iframe # ∗
  iintro ⟨Ho, S10⟩
  ihave S10 := (Entails.of_eq (full10 I c)) $$ S10
  icases S10 with ⟨S10, S11, S12⟩
  iapply (copy I V c 10 (by decide) _ (dev31_eq c) (S := left 14) (S' := left 15) (by decide +kernel) (by decide +kernel) rfl) $$ [S10 P10 HO]
  · isplitr; · iexact HV
    isplitl [P10]; · iexact P10
    isplitl [S10]; · iexact S10
    iexact HO
  iintro ⟨F10, HO⟩
  iapply Hc
  iframe # ∗

theorem part30 (w1 w2 w3 w4 w5 : BitVec 32)
    {K : _ → Prog (TpuEff nD τ sig (Elt F) Λ₀ .tc) α} :
    iprop(V.P ∗ levAts (L 8) lv ∗ Fly c 10 ∗ Src I c 11 ∗ Src I c 12 ∗ Pre c 11 ∗ Pre c 12 ∗ Ow c (left 15))
      ⊢ iprop((∀ u w, (Half c 10 ∗ Src I c 10 ∗ Fly c 11 ∗ Fly c 12 ∗ Ow c (left 17)) -∗ Run c Q (K ⟨u, w⟩))
        -∗ Run c Q ((k0_part30 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5) >>= K)) := by
  rw [k0_part30_eq_skeleton]; unfold k0_part30_skel
  simp only [Prog.lift, Prog.bind_op, Prog.bind_ret, Prog.pure_eq_ret, Prog.bind_assoc]
  iintro ⟨#HV, #HL, F10, S11, S12, P11, P12, HO⟩ Hc
  iapply (copy I V c 11 (by decide) _ (dev32_eq c) (S := left 15) (S' := left 16) (by decide +kernel) (by decide +kernel) rfl) $$ [S11 P11 HO]
  · isplitr; · iexact HV
    isplitl [P11]; · iexact P11
    isplitl [S11]; · iexact S11
    iexact HO
  iintro ⟨F11, HO⟩
  iapply (copy I V c 12 (by decide) _ (dev33_eq c) (S := left 16) (S' := left 17) (by decide +kernel) (by decide +kernel) rfl) $$ [S12 P12 HO]
  · isplitr; · iexact HV
    isplitl [P12]; · iexact P12
    isplitl [S12]; · iexact S12
    iexact HO
  iintro ⟨F12, HO⟩
  iapply (ws I V c 10 (by decide) (left_lt 17 (by decide +kernel)) rfl) $$ [F10 HO]
  · iframe # ∗
  iintro ⟨H10, S10, HO⟩
  iapply Hc
  iframe # ∗

theorem part31 (w1 w2 w3 w4 : BitVec 32)
    {K : _ → Prog (TpuEff nD τ sig (Elt F) Λ₀ .tc) α} :
    iprop(V.P ∗ levAts (L 8) lv ∗ Out c (gD I c 3) ∗ Half c 10 ∗ Fly c 11 ∗ Pre c 14 ∗ Ow c (left 17))
      ⊢ iprop(((Out c (gE I c 1) ∗ Done c 10 ∗ Fly c 14 ∗ Half c 11 ∗ Src I c 11 ∗ Ow c (left 18)) -∗ Run c Q (K ⟨⟩))
        -∗ Run c Q ((k0_part31 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4) >>= K)) := by
  rw [k0_part31_eq_skeleton]; unfold k0_part31_skel
  simp only [Prog.lift, Prog.bind_op, Prog.bind_ret, Prog.pure_eq_ret, Prog.bind_assoc]
  iintro ⟨#HV, #HL, Ho, H10, F11, P14, HO⟩ Hc
  iapply (wl I V c 10 (by decide) (left_lt 17 (by decide +kernel))) $$ [H10 HO]
  · iframe # ∗
  iintro ⟨D10, G10, HO⟩
  ihave Ho := (Entails.of_eq (show Out c (gD I c 3) = (Out c (gE I c 0) : sProp 𝕄) from rfl)) $$ Ho
  iapply (fill I c 10 64 (lo c + (zc c ^^^ 1) * 64) (off28_1_eq c) (gE I c 0) (gE I c 1) k0_pay73 rfl) $$ [Ho G10]
  · iframe # ∗
  iintro ⟨Ho, G10⟩
  ihave S14 := (Entails.of_eq (show Got I c 10 = (Src I c 14 : sProp 𝕄) from rfl)) $$ G10
  iapply (copy I V c 14 (by decide) _ (dev34_eq c) (S := left 17) (S' := left 18) (by decide +kernel) (by decide +kernel) rfl) $$ [S14 P14 HO]
  · isplitr; · iexact HV
    isplitl [P14]; · iexact P14
    isplitl [S14]; · iexact S14
    iexact HO
  iintro ⟨F14, HO⟩
  iapply (ws I V c 11 (by decide) (left_lt 18 (by decide +kernel)) rfl) $$ [F11 HO]
  · iframe # ∗
  iintro ⟨H11, S11, HO⟩
  iapply Hc
  iframe # ∗

theorem part32 (w1 w2 w3 w4 : BitVec 32)
    {K : _ → Prog (TpuEff nD τ sig (Elt F) Λ₀ .tc) α} :
    iprop(V.P ∗ levAts (L 8) lv ∗ Out c (gE I c 1) ∗ Half c 11 ∗ Fly c 12 ∗ Pre c 15 ∗ Ow c (left 18))
      ⊢ iprop((∀ w, (Out c (gE I c 2) ∗ Done c 11 ∗ Fly c 15 ∗ Done c 12 ∗ Src I c 12 ∗ Got I c 12 ∗ Ow c (left 19)) -∗ Run c Q (K w))
        -∗ Run c Q ((k0_part32 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4) >>= K)) := by
  rw [k0_part32_eq_skeleton]; unfold k0_part32_skel
  simp only [Prog.lift, Prog.bind_op, Prog.bind_ret, Prog.pure_eq_ret, Prog.bind_assoc]
  iintro ⟨#HV, #HL, Ho, H11, F12, P15, HO⟩ Hc
  iapply (wl I V c 11 (by decide) (left_lt 18 (by decide +kernel))) $$ [H11 HO]
  · iframe # ∗
  iintro ⟨D11, G11, HO⟩
  iapply (fill I c 11 64 (lo c + (zc c ^^^ 2) * 64) (off28_2_eq c) _ (gE I c 2) k0_pay74 rfl) $$ [Ho G11]
  · iframe # ∗
  iintro ⟨Ho, G11⟩
  ihave S15 := (Entails.of_eq (show Got I c 11 = (Src I c 15 : sProp 𝕄) from rfl)) $$ G11
  iapply (copy I V c 15 (by decide) _ (dev35_eq c) (S := left 18) (S' := left 19) (by decide +kernel) (by decide +kernel) rfl) $$ [S15 P15 HO]
  · isplitr; · iexact HV
    isplitl [P15]; · iexact P15
    isplitl [S15]; · iexact S15
    iexact HO
  iintro ⟨F15, HO⟩
  iapply (ws I V c 12 (by decide) (left_lt 19 (by decide +kernel)) rfl) $$ [F12 HO]
  · iframe # ∗
  iintro ⟨H12, S12, HO⟩
  iapply (wl I V c 12 (by decide) (left_lt 19 (by decide +kernel))) $$ [H12 HO]
  · iframe # ∗
  iintro ⟨D12, G12, HO⟩
  iapply Hc
  iframe # ∗

theorem part33 (w1 w2 w3 w4 w5 : BitVec 32)
    {K : _ → Prog (TpuEff nD τ sig (Elt F) Λ₀ .tc) α} :
    iprop(V.P ∗ levAts (L 8) lv ∗ Out c (gE I c 2) ∗ Got I c 12 ∗ Fly c 13 ∗ Pre c 16 ∗ Ow c (left 19))
      ⊢ iprop((∀ w, (Out c (gE I c 3) ∗ Fly c 16 ∗ Done c 13 ∗ Src I c 13 ∗ Got I c 13 ∗ Ow c (left 20)) -∗ Run c Q (K w))
        -∗ Run c Q ((k0_part33 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3 w4 w5) >>= K)) := by
  rw [k0_part33_eq_skeleton]; unfold k0_part33_skel
  simp only [Prog.lift, Prog.bind_op, Prog.bind_ret, Prog.pure_eq_ret, Prog.bind_assoc]
  iintro ⟨#HV, #HL, Ho, G12, F13, P16, HO⟩ Hc
  iapply (fill I c 12 64 (lo c + (zc c ^^^ 3) * 64) (off28_3_eq c) _ (gE I c 3) k0_pay75 rfl) $$ [Ho G12]
  · iframe # ∗
  iintro ⟨Ho, G12⟩
  ihave S16 := (Entails.of_eq (show Got I c 12 = (Src I c 16 : sProp 𝕄) from rfl)) $$ G12
  iapply (copy I V c 16 (by decide) _ (dev36_eq c) (S := left 19) (S' := left 20) (by decide +kernel) (by decide +kernel) rfl) $$ [S16 P16 HO]
  · isplitr; · iexact HV
    isplitl [P16]; · iexact P16
    isplitl [S16]; · iexact S16
    iexact HO
  iintro ⟨F16, HO⟩
  iapply (ws I V c 13 (by decide) (left_lt 20 (by decide +kernel)) rfl) $$ [F13 HO]
  · iframe # ∗
  iintro ⟨H13, S13, HO⟩
  iapply (wl I V c 13 (by decide) (left_lt 20 (by decide +kernel))) $$ [H13 HO]
  · iframe # ∗
  iintro ⟨D13, G13, HO⟩
  iapply Hc
  iframe # ∗

theorem part34 (w1 w2 w3 : BitVec 32)
    {K : _ → Prog (TpuEff nD τ sig (Elt F) Λ₀ .tc) α} :
    iprop(V.P ∗ levAts (L 8) lv ∗ Out c (gE I c 3) ∗ Fly c 14 ∗ Got I c 13 ∗ Ow c (left 20))
      ⊢ iprop(((Out c (gF I c 2) ∗ Got I c 13 ∗ Done c 14 ∗ Src I c 14 ∗ Got I c 14 ∗ Ow c (left 20)) -∗ Run c Q (K ⟨⟩))
        -∗ Run c Q ((k0_part34 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part34_eq_skeleton]; unfold k0_part34_skel
  simp only [Prog.lift, Prog.bind_op, Prog.bind_ret, Prog.pure_eq_ret, Prog.bind_assoc]
  iintro ⟨#HV, #HL, Ho, F14, G13, HO⟩ Hc
  ihave Ho := (Entails.of_eq (show Out c (gE I c 3) = (Out c (gF I c 0) : sProp 𝕄) from rfl)) $$ Ho
  iapply (fill I c 13 64 (hi c + (zc c ^^^ 0) * 64) (off29_0_eq c) (gF I c 0) (gF I c 1) k0_pay76 rfl) $$ [Ho G13]
  · iframe # ∗
  iintro ⟨Ho, G13⟩
  iapply (ws I V c 14 (by decide) (left_lt 20 (by decide +kernel)) rfl) $$ [F14 HO]
  · iframe # ∗
  iintro ⟨H14, S14, HO⟩
  iapply (wl I V c 14 (by decide) (left_lt 20 (by decide +kernel))) $$ [H14 HO]
  · iframe # ∗
  iintro ⟨D14, G14, HO⟩
  iapply (fill I c 14 64 (hi c + (zc c ^^^ 1) * 64) (off29_1_eq c) _ (gF I c 2) k0_pay77 rfl) $$ [Ho G14]
  · iframe # ∗
  iintro ⟨Ho, G14⟩
  iapply Hc
  iframe # ∗

theorem part35 (w1 w2 w3 : BitVec 32)
    {K : _ → Prog (TpuEff nD τ sig (Elt F) Λ₀ .tc) α} :
    iprop(V.P ∗ levAts (L 8) lv ∗ Out c (gF I c 2) ∗ Fly c 15 ∗ Fly c 16 ∗ Ow c (left 20))
      ⊢ iprop(((Out c (gF I c 3) ∗ Done c 15 ∗ Src I c 15 ∗ Got I c 15 ∗ Done c 16 ∗ Src I c 16 ∗ Got I c 16 ∗ Ow c (left 20)) -∗ Run c Q (K ⟨⟩))
        -∗ Run c Q ((k0_part35 (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3 c w1 w2 w3) >>= K)) := by
  rw [k0_part35_eq_skeleton]; unfold k0_part35_skel
  simp only [Prog.lift, Prog.bind_op, Prog.bind_ret, Prog.pure_eq_ret, Prog.bind_assoc]
  iintro ⟨#HV, #HL, Ho, F15, F16, HO⟩ Hc
  iapply (ws I V c 15 (by decide) (left_lt 20 (by decide +kernel)) rfl) $$ [F15 HO]
  · iframe # ∗
  iintro ⟨H15, S15, HO⟩
  iapply (wl I V c 15 (by decide) (left_lt 20 (by decide +kernel))) $$ [H15 HO]
  · iframe # ∗
  iintro ⟨D15, G15, HO⟩
  iapply (fill I c 15 64 (hi c + (zc c ^^^ 2) * 64) (off29_2_eq c) _ (gF I c 3) k0_pay78 rfl) $$ [Ho G15]
  · iframe # ∗
  iintro ⟨Ho, G15⟩
  iapply (ws I V c 16 (by decide) (left_lt 20 (by decide +kernel)) rfl) $$ [F16 HO]
  · iframe # ∗
  iintro ⟨H16, S16, HO⟩
  iapply (wl I V c 16 (by decide) (left_lt 20 (by decide +kernel))) $$ [H16 HO]
  · iframe # ∗
  iintro ⟨D16, G16, HO⟩
  iapply Hc
  iframe # ∗

end Cert.Exch
-- ==== Proof.Body.lean ====
/-
The body of the kernel, part by part.
-/
module

public import proofs.«01_k».proof.Proof.PartsA
public import proofs.«01_k».proof.Proof.PartsC

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.ValueIdx

variable {F : FTy → Type} [FloatOps F]

local notation "𝕄" => MT nD τ sig ℕ (Elt F) ℕ UU ℕ

variable (I : Dev nD → Inp F)
variable {κ : GSem nD τ sig → ℕ}
variable (V : Invs I κ)
variable {α : Type} {Q : α → sProp (MT nD τ sig ℕ (Elt F) ℕ UU ℕ)}
variable (c : Dev nD)

/-! ## The exchanges one by one -/

theorem bigSep_ex (f : Fin 21 → sProp 𝕄) : bigSep ex f = iprop(f 1 ∗ f 2 ∗ f 3 ∗ f 4 ∗ f 5 ∗ f 6 ∗ f 7 ∗ f 8 ∗ f 9 ∗ f 10 ∗ f 11 ∗ f 12 ∗ f 13 ∗ f 14 ∗ f 15 ∗ f 16 ∗ f 17 ∗ f 18 ∗ f 19 ∗ f 20) := by
  rw [show (ex : Finset (Fin 21)) = {1, 2, 3, 4, 5, 6, 7, 8, 9, 10, 11, 12, 13, 14, 15, 16, 17, 18, 19, 20} by decide +kernel]
  repeat rw [bigSep_insert (by decide +kernel)]
  rw [bigSep_singleton]; rfl

theorem bigSep_seven (f : Fin 7 → sProp 𝕄) : bigSep Finset.univ f = iprop(f 0 ∗ f 1 ∗ f 2 ∗ f 3 ∗ f 4 ∗ f 5 ∗ f 6) := by
  rw [show (Finset.univ : Finset (Fin 7)) = {0, 1, 2, 3, 4, 5, 6} by decide +kernel]
  repeat rw [bigSep_insert (by decide +kernel)]
  rw [bigSep_singleton]; rfl

/-- The receive slots, by the neighbour that writes them. -/
theorem gsets (f : Fin 21 → sProp 𝕄) : bigSep ex f = bigSep Finset.univ fun i => bigSep (gset i) f := by
  rw [show (ex : Finset (Fin 21)) = Finset.univ.biUnion gset by decide +kernel]
  exact bigSep_biUnion_eq _ _ _ (by decide +kernel)

/-- The right to signal the `i`-th neighbour. -/
def Sg (i : Fin 7) : sProp 𝕄 := iprop(reached ER (bC (xr c (bm i))) 0 ∗ dutyTok ER (bC (xr c (bm i))) 0 c)

/-- What exchange `k` needs beside the peer's receive slot. -/
def Ready (k : Fin 21) : sProp 𝕄 :=
  iprop(atPos ER (sC c k) 0 ∅ 0 ∗ reached ER (sC c k) 0 ∗ atPos ER (rC c k) 0 ∅ 0 ∗ dutyTok ER (sC c k) 0 c ∗ dutyTok ER (rC (peer c k) k) 0 c
    ∗ cred (tallyAt (rC c k) (kl k) (amt k)))

/-- A receive slot at contents that do not matter. -/
abbrev Land (c : Dev nD) (k : Fin 21) : sProp 𝕄 := iprop(∃ X, owns (c : Thread nD τ) (slR k) fullShare X)

theorem sig_one (i : Fin 7) : iprop(Sg c i ∗ bigSep (gset i) (fun k => free c k)) ⊢ (Sig c i : sProp 𝕄) := by
  unfold Sg Sig
  iintro ⟨⟨H1, H2⟩, H3⟩
  iframe # ∗

theorem pre_one (k : Fin 21) : iprop(Ready c k ∗ free (peer c k) k) ⊢ (Pre c k : sProp 𝕄) := by
  unfold Ready Pre
  iintro ⟨⟨H1, H2, H3, H4, H5, H6⟩, H7⟩
  iframe # ∗

theorem sigs : iprop(bigSep Finset.univ (Sg c) ∗ bigSep ex (fun k => free c k))
    ⊢ (iprop(Sig c 0 ∗ Sig c 1 ∗ Sig c 2 ∗ Sig c 3 ∗ Sig c 4 ∗ Sig c 5 ∗ Sig c 6) : sProp 𝕄) := by
  rw [gsets, ← Idealize.SL.BI.bigSep_sep', ← bigSep_seven (Sig c)]
  exact bigSep_mono fun i _ => sig_one c i

theorem pres : iprop(bigSep ex (Ready c) ∗ bigSep ex (fun k => free (peer c k) k))
    ⊢ (iprop(Pre c 1 ∗ Pre c 2 ∗ Pre c 3 ∗ Pre c 4 ∗ Pre c 5 ∗ Pre c 6 ∗ Pre c 7 ∗ Pre c 8 ∗ Pre c 9 ∗ Pre c 10 ∗ Pre c 11 ∗ Pre c 12 ∗ Pre c 13 ∗ Pre c 14 ∗ Pre c 15 ∗ Pre c 16 ∗ Pre c 17 ∗ Pre c 18 ∗ Pre c 19 ∗ Pre c 20) : sProp 𝕄) := by
  rw [← Idealize.SL.BI.bigSep_sep', ← bigSep_ex (Pre c)]
  exact bigSep_mono fun k _ => pre_one c k

theorem st_begin : iprop(Pre c 1 ∗ Pre c 2 ∗ Pre c 3 ∗ Slot c 1 ∗ Slot c 2 ∗ Slot c 3 ∗ Ow c (left 4)) ⊢ (St c 0 : sProp 𝕄) := by
  unfold St
  have h1 : Stg (F := F) c 0 1 = iprop(Pre c 1 ∗ Slot c 1) := if_pos (show 0 + 1 ≤ 3 * (zc c ^^^ 1) + 1 by omega)
  have h2 : Stg (F := F) c 0 2 = iprop(Pre c 2 ∗ Slot c 2) := if_pos (show 0 + 1 ≤ 3 * (zc c ^^^ 2) + 2 by omega)
  have h3 : Stg (F := F) c 0 3 = iprop(Pre c 3 ∗ Slot c 3) := if_pos (show 0 + 1 ≤ 3 * (zc c ^^^ 3) + 3 by omega)
  have e : bigSep ({1, 2, 3} : Finset (Fin 21)) (Stg (F := F) c 0) = iprop((Pre c 1 ∗ Slot c 1) ∗ (Pre c 2 ∗ Slot c 2) ∗ (Pre c 3 ∗ Slot c 3)) := by
    rw [bigSep_insert (by decide), bigSep_insert (by decide), bigSep_singleton, h1, h2, h3]; rfl
  rw [staged_zero, e]
  iintro ⟨P1, P2, P3, S1, S2, S3, HO⟩
  iframe # ∗

/-! ## The body -/

/-- What the body takes. -/
def BodyPre (g : Acc F) (W : Waits sig ℕ) : sProp 𝕄 :=
  iprop(bigSep Finset.univ (Sg c) ∗ bigSep ex (fun k => free c k) ∗ bigSep ex (Ready c) ∗ bigSep ex (Slot c)
    ∗ owes (c : Thread nD τ) (dueS c ex + dueB c Finset.univ) W ∗ cred (tallyAt (bC c) 1 7) ∗ atPos ER (bC c) 0 ∅ 0
    ∗ SX I c ∗ SQ I c ∗ SW I c ∗ SK I c ∗ SV I c ∗ Out c g)
/-- What it leaves. -/
def BodyPost : sProp 𝕄 :=
  iprop(bigSep ex (Done c) ∗ bigSep ex (Slot c) ∗ bigSep ex (Land c) ∗ Ow c ∅ ∗ atPos ER (bC c) (0 + 1) ∅ 0
    ∗ SX I c ∗ SQ I c ∗ SW I c ∗ SK I c ∗ SV I c ∗ Out c (gF I c 4))

set_option maxHeartbeats 4000000 in
theorem body_run (g : Acc F) (W : Waits sig ℕ) {Q : PUnit → sProp (MT nD τ sig ℕ (Elt F) ℕ UU ℕ)} :
    iprop(V.P ∗ levAts (L 8) lv ∗ BodyPre I c g W)
      ⊢ iprop((BodyPost I c -∗ Q ⟨⟩) -∗ Run c Q (cc0_body (F := F) xM (Memref.isWhole_whole _) qM (Memref.isWhole_whole _) wM (Memref.isWhole_whole _) kM (Memref.isWhole_whole _) vM (Memref.isWhole_whole _) oM (Memref.isWhole_whole _) sM (Memref.isWhole_whole _) rM (Memref.isWhole_whole _) cc0_scratch2 cc0_scratch3)) := by
  unfold BodyPre
  rw [bigSep_ex (Slot c), ← tl_zero, ex_left, ← ex_left]
  unfold cc0_body
  iintro ⟨#HV, #HL, Hsg, Hfr, Hrd, ⟨T1, T2, T3, T4, T5, T6, T7, T8, T9, T10, T11, T12, T13, T14, T15, T16, T17, T18, T19, T20⟩, HO, Hcr, Hat, Hx, Hq, Hw, Hk, Hv, Ho⟩ Hc
  ihave HB := (sigs c) $$ [Hsg Hfr]
  · rw [← tl_zero]; iframe # ∗
  icases HB with ⟨B0, B1, B2, B3, B4, B5, B6⟩
  iapply (part1 c)
  iintro %a1 %a2 %a3 %a4 %a5 %a6 %a7 %a8
  iapply (part2 I V c _ _ _ _ _ _ _ (W := W)) $$ [B0 HO]
  · isplitr; · iexact HV
    isplitl [B0]; · iexact B0
    rw [← ex_left]; iexact HO
  iintro %b1 %b2 %b3 %b4 HO
  iapply (part3 I V c _ _ _ _ (W := W)) $$ [B1 B2 B3 B4 B5 B6 HO Hcr Hat Hq Hw]
  · iframe # ∗
  iintro %c1 %c2 ⟨HO, Hat, Hf, Hq, Hw⟩
  ihave HP := (pres c) $$ [Hrd Hf]
  · iframe # ∗
  icases HP with ⟨P1, P2, P3, P4, P5, P6, P7, P8, P9, P10, P11, P12, P13, P14, P15, P16, P17, P18, P19, P20⟩
  iapply (part4 I V c _ _) $$ [Hx Hk Hv]
  · isplitr; · iexact HV
    isplitr; · iexact HL
    iframe # ∗
  iintro ⟨Hx, Hk, Hv⟩
  iapply (part5 I V c _ _ _ _) $$ [Hk Hv]
  · isplitr; · iexact HV
    isplitr; · iexact HL
    iframe # ∗
  iintro ⟨Hk, Hv⟩
  iapply (part6 I V c _ _ _ _) $$ [Hk Hv]
  · isplitr; · iexact HV
    isplitr; · iexact HL
    iframe # ∗
  iintro ⟨Hk, Hv⟩
  iapply (part7 I V c _ _ _ _ _) $$ [Hk Hv]
  · isplitr; · iexact HV
    isplitr; · iexact HL
    iframe # ∗
  iintro ⟨Hk, Hv⟩
  iapply (part8 I V c _ _ (k0_pay3 (I c).wo) (k0_pay5 (k0_pay2 (I c).wq) (xb (I c).x (1 - xc c)) (kb (I c).k (1 - xc c) 0) (kb (I c).v (1 - xc c) 0)) (k0_pay8 (k0_pay6 (k0_pay2 (I c).wq) (xb (I c).x (1 - xc c)) (kb (I c).k (1 - xc c) 0)) (k0_pay7 (k0_pay2 (I c).wq) (xb (I c).x (1 - xc c)) (kb (I c).k (1 - xc c) 0)) (kb (I c).v (1 - xc c) 0)) (k0_pay9 (k0_pay4 (k0_pay2 (I c).wq) (xb (I c).x (1 - xc c))) (kb (I c).k (1 - xc c) 0) (kb (I c).v (1 - xc c) 0)) (k0_pay12 (k0_pay10 (k0_pay4 (k0_pay2 (I c).wq) (xb (I c).x (1 - xc c))) (kb (I c).k (1 - xc c) 0)) (k0_pay11 (k0_pay4 (k0_pay2 (I c).wq) (xb (I c).x (1 - xc c))) (kb (I c).k (1 - xc c) 0)) (kb (I c).v (1 - xc c) 0)) (k0_pay13 (k0_pay4 (k0_pay2 (I c).wq) (xb (I c).x (1 - xc c))) (kb (I c).k (1 - xc c) 1) (kb (I c).v (1 - xc c) 1)) (k0_pay16 (k0_pay14 (k0_pay4 (k0_pay2 (I c).wq) (xb (I c).x (1 - xc c)))) (k0_pay15 (kb (I c).k (1 - xc c) 1)) (constant S256x512 .f32 0x00000000#32) (kb (I c).v (1 - xc c) 1)) (k0_pay17 (k0_pay4 (k0_pay2 (I c).wq) (xb (I c).x (1 - xc c))) (kb (I c).k (1 - xc c) 1) (kb (I c).v (1 - xc c) 1)) (k0_pay18 (k0_pay4 (k0_pay2 (I c).wq) (xb (I c).x (1 - xc c)))) g rfl) $$ [Hk Hv Ho T17]
  · isplitr; · iexact HV
    isplitr; · iexact HL
    iframe # ∗
  iintro %u8_0 %u8_1 ⟨Hk, Hv, Ho, U17⟩
  iapply (part9 I V c _ _ _ g) $$ [Ho U17 T18 T19 P17 P18 HO]
  · isplitr; · iexact HV
    isplitr; · iexact HL
    iframe # ∗
  iintro %u9_0 ⟨Ho, F17, F18, U19, HO⟩
  iapply (part10 I V c _ _ _ _ _ g) $$ [Ho U19 T20 P19 P20 Hx Hk HO]
  · isplitr; · iexact HV
    isplitr; · iexact HL
    iframe # ∗
  iintro ⟨Ho, F19, F20, Hx, Hk, HO⟩
  iapply (part11 I V c _ _ _ _ _) $$ [Hk Hv]
  · isplitr; · iexact HV
    isplitr; · iexact HL
    iframe # ∗
  iintro ⟨Hk, Hv⟩
  iapply (part12 I V c _ _ _) $$ [Hk Hv]
  · isplitr; · iexact HV
    isplitr; · iexact HL
    iframe # ∗
  iintro ⟨Hk, Hv⟩
  iapply (part13 I V c _ _ _ _ _ _) $$ [Hk Hv]
  · isplitr; · iexact HV
    isplitr; · iexact HL
    iframe # ∗
  iintro ⟨Hk, Hv⟩
  iapply (part14 I V c _ _ _ _) $$ [Hk Hv]
  · isplitr; · iexact HV
    isplitr; · iexact HL
    iframe # ∗
  iintro ⟨Hk, Hv⟩
  iapply (part15 I V c _ _ _ _ (k0_pay3 (I c).wo) (k0_pay27 (k0_pay25 (k0_pay2 (I c).wq) (xb (I c).x (xc c))) (k0_pay26 (kb (I c).k (xc c) 0)) (constant S256x512 .f32 0x00000000#32) (kb (I c).v (xc c) 0)) (k0_pay28 (k0_pay24 (k0_pay2 (I c).wq) (xb (I c).x (xc c))) (kb (I c).k (xc c) 0) (kb (I c).v (xc c) 0)) (k0_pay30 (k0_pay29 (k0_pay24 (k0_pay2 (I c).wq) (xb (I c).x (xc c)))) (kb (I c).k (xc c) 0) (kb (I c).v (xc c) 0)) (k0_pay35 (k0_pay32 (k0_pay24 (k0_pay2 (I c).wq) (xb (I c).x (xc c))) (kb (I c).k (xc c) 0)) (k0_pay33 (kb (I c).v (xc c) 0)) (k0_pay34 (k0_pay24 (k0_pay2 (I c).wq) (xb (I c).x (xc c))) (kb (I c).k (xc c) 0)) (constant S256x64 .f32 0x00000000#32)) (k0_pay36 (k0_pay24 (k0_pay2 (I c).wq) (xb (I c).x (xc c))) (kb (I c).k (xc c) 1) (kb (I c).v (xc c) 1)) (k0_pay39 (k0_pay37 (k0_pay24 (k0_pay2 (I c).wq) (xb (I c).x (xc c))) (kb (I c).k (xc c) 1)) (k0_pay38 (k0_pay24 (k0_pay2 (I c).wq) (xb (I c).x (xc c))) (kb (I c).k (xc c) 1)) (kb (I c).v (xc c) 1)) (k0_pay40 (k0_pay24 (k0_pay2 (I c).wq) (xb (I c).x (xc c))) (kb (I c).k (xc c) 1) (kb (I c).v (xc c) 1)) (k0_pay41 (k0_pay24 (k0_pay2 (I c).wq) (xb (I c).x (xc c))) (kb (I c).k (xc c) 1)) g rfl) $$ [Hv Ho F17 HO]
  · isplitr; · iexact HV
    isplitr; · iexact HL
    iframe # ∗
  iintro %u15_0 %u15_1 %u15_2 %u15_3 %u15_4 %u15_5 %u15_6 ⟨Hv, Ho, H17, S17, HO⟩
  ihave HS := (st_begin c) $$ [P1 P2 P3 T1 T2 T3 HO]
  · iframe # ∗
  iapply (part16 I V c _ _ _ _ _ _ _ ) $$ [Ho H17 F18 HS]
  · isplitr; · iexact HV
    isplitr; · iexact HL
    iframe # ∗
  iintro ⟨Ho, D17, G17, H18, S18, HS⟩
  iapply (part17 I V c _ _ _ _ _ _ _ _ ) $$ [Ho H18 HS]
  · isplitr; · iexact HV
    isplitr; · iexact HL
    iframe # ∗
  iintro ⟨Ho, D18, G18, HS⟩
  iapply (part18 I V c _ _ _ _ _ _ _ ) $$ [Ho F19 HS]
  · isplitr; · iexact HV
    isplitr; · iexact HL
    iframe # ∗
  iintro %u18_0 ⟨Ho, D19, S19, G19, HS⟩
  iapply (part19 I V c _ _ _ _ _ _ _ _ ) $$ [Ho F20 HS]
  · isplitr; · iexact HV
    isplitr; · iexact HL
    iframe # ∗
  iintro %u19_0 ⟨Ho, D20, S20, G20, HS⟩
  iapply (part20 I V c _ _ _ _ _ _ _ _ ) $$ [Ho HS]
  · isplitr; · iexact HV
    isplitr; · iexact HL
    iframe # ∗
  iintro %u20_0 ⟨Ho, D1, S1, G1, F2, F3, HO⟩
  iapply (part21 I V c _ _ _ ) $$ [Ho F2 F3 HO]
  · isplitr; · iexact HV
    isplitr; · iexact HL
    iframe # ∗
  iintro ⟨Ho, D2, S2, G2, H3, S3, HO⟩
  iapply (part22 I V c _ _ _ ) $$ [Ho H3 T4 P4 HO]
  · isplitr; · iexact HV
    isplitr; · iexact HL
    iframe # ∗
  iintro %u22_0 %u22_1 ⟨Ho, D3, G3, F4, HO⟩
  iapply (part23 I V c _ _ _ _ ) $$ [Ho T5 P5 T6 P6 HO]
  · isplitr; · iexact HV
    isplitr; · iexact HL
    iframe # ∗
  iintro %u23_0 ⟨Ho, F5, F6, HO⟩
  iapply (part24 I V c _ _ ) $$ [F4 F5 HO]
  · isplitr; · iexact HV
    isplitr; · iexact HL
    iframe # ∗
  iintro ⟨D4, S4, G4, D5, S5, G5, HO⟩
  iapply (part25 I V c _ _ _ _ ) $$ [Ho F6 G4 G5 T7 HO]
  · isplitr; · iexact HV
    isplitr; · iexact HL
    iframe # ∗
  iintro %u25_0 %u25_1 ⟨Ho, D6, S6, G4, G5, G6, U7, HO⟩
  ihave U7 := (Entails.of_eq (full7 I c)) $$ U7
  icases U7 with ⟨S7, S8, S9⟩
  iapply (part26 I V c _ _ ) $$ [S7 S8 S9 P7 P8 P9 HO]
  · isplitr; · iexact HV
    isplitr; · iexact HL
    iframe # ∗
  iintro %u26_0 %u26_1 ⟨F7, F8, F9, HO⟩
  iapply (part27 I V c _ _ ) $$ [F7 F8 F9 HO]
  · isplitr; · iexact HV
    isplitr; · iexact HL
    iframe # ∗
  iintro ⟨D7, S7, G7, D8, S8, G8, H9, S9, HO⟩
  iapply (part28 I V c _ _ _ _ ) $$ [Ho H9 G7 G8 HO]
  · isplitr; · iexact HV
    isplitr; · iexact HL
    iframe # ∗
  iintro %u28_0 %u28_1 ⟨Ho, D9, G7, G8, G9, HO⟩
  iapply (part29 I V c _ _ _ ) $$ [Ho T13 P13 T10 P10 HO]
  · isplitr; · iexact HV
    isplitr; · iexact HL
    iframe # ∗
  iintro %u29_0 %u29_1 ⟨Ho, F13, F10, S11, S12, HO⟩
  iapply (part30 I V c _ _ _ _ _ ) $$ [F10 S11 S12 P11 P12 HO]
  · isplitr; · iexact HV
    isplitr; · iexact HL
    iframe # ∗
  iintro %u30_0 %u30_1 ⟨H10, S10, F11, F12, HO⟩
  iapply (part31 I V c _ _ _ _ ) $$ [Ho H10 F11 P14 HO]
  · isplitr; · iexact HV
    isplitr; · iexact HL
    iframe # ∗
  iintro ⟨Ho, D10, F14, H11, S11, HO⟩
  iapply (part32 I V c _ _ _ _ ) $$ [Ho H11 F12 P15 HO]
  · isplitr; · iexact HV
    isplitr; · iexact HL
    iframe # ∗
  iintro %u32_0 ⟨Ho, D11, F15, D12, S12, G12, HO⟩
  iapply (part33 I V c _ _ _ _ _ ) $$ [Ho G12 F13 P16 HO]
  · isplitr; · iexact HV
    isplitr; · iexact HL
    iframe # ∗
  iintro %u33_0 ⟨Ho, F16, D13, S13, G13, HO⟩
  iapply (part34 I V c _ _ _ ) $$ [Ho F14 G13 HO]
  · isplitr; · iexact HV
    isplitr; · iexact HL
    iframe # ∗
  iintro ⟨Ho, G13, D14, S14, G14, HO⟩
  iapply (part35 I V c _ _ _ ) $$ [Ho F15 F16 HO]
  · isplitr; · iexact HV
    isplitr; · iexact HL
    iframe # ∗
  iintro ⟨Ho, D15, S15, G15, D16, S16, G16, HO⟩
  simp only [Prog.lift, Prog.bind_op, Prog.bind_ret, Prog.pure_eq_ret, Prog.bind_assoc]
  iapply (fill I c 16 64 (hi c + (zc c ^^^ 3) * 64) (off29_3_eq c) (gF I c 3) (gF I c 4) k0_pay1 rfl) $$ [Ho G16]
  · iframe # ∗
  iintro ⟨Ho, G16⟩
  unfold Run
  rw [wp_ret]; imodintro
  iapply Hc
  ihave U7 := (Entails.of_eq (full7 I c).symm) $$ [S7 S8 S9]
  · iframe # ∗
  ihave U10 := (Entails.of_eq (full10 I c).symm) $$ [S10 S11 S12]
  · iframe # ∗
  unfold BodyPost
  rw [← left_end, bigSep_ex (Done c), bigSep_ex (Slot c), bigSep_ex (Land c)]
  isplitl [D1 D2 D3 D4 D5 D6 D7 D8 D9 D10 D11 D12 D13 D14 D15 D16 D17 D18 D19 D20]
  · iframe # ∗
  isplitl [S1 S2 S3 S4 S5 S6 U7 T8 T9 U10 T11 T12 S13 T14 T15 T16 S17 S18 S19 S20]
  · isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [U7]; · iexists _; iexact U7
    isplitl [T8]; · iexact T8
    isplitl [T9]; · iexact T9
    isplitl [U10]; · iexists _; iexact U10
    isplitl [T11]; · iexact T11
    isplitl [T12]; · iexact T12
    isplitl [S13]; · iexists _; iexact S13
    isplitl [T14]; · iexact T14
    isplitl [T15]; · iexact T15
    isplitl [T16]; · iexact T16
    isplitl [S17]; · iexists _; iexact S17
    isplitl [S18]; · iexists _; iexact S18
    isplitl [S19]; · iexists _; iexact S19
    iexists _; iexact S20
  isplitl [G1 G2 G3 G4 G5 G6 G7 G8 G9 S14 S15 S16 G13 G14 G15 G16 G17 G18 G19 G20]
  · isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [S14]; · iexists _; iexact S14
    isplitl [S15]; · iexists _; iexact S15
    isplitl [S16]; · iexists _; iexact S16
    isplitl [G13]; · iexists _; iexact G13
    isplitl [G14]; · iexists _; iexact G14
    isplitl [G15]; · iexists _; iexact G15
    isplitl [G16]; · iexists _; iexact G16
    isplitl [G17]; · iexists _; iexact G17
    isplitl [G18]; · iexists _; iexact G18
    isplitl [G19]; · iexists _; iexact G19
    iexists _; iexact G20
  iframe # ∗

end Cert.Exch
-- ==== Proof.Entry.lean ====
/-
What the launch hands the kernel and what the kernel hands back: the scratch buffers slot by slot, the launch credit
exchange by exchange, the transfer cells opened and closed.
-/
module

public import proofs.«01_k».proof.Proof.Body
public import Idealize.ShloMosaic.Lib.Rounds.Family

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.TalkSites (Fam)
open Idealize.ShloMosaic.ValueIdx

variable {F : FTy → Type} [FloatOps F]

local notation "𝕄" => MT nD τ sig ℕ (Elt F) ℕ UU ℕ

variable (c : Dev nD)

/-! ## The scratch buffers -/

theorem rk_range : ∀ k k' : Fin 21, k ≠ k' → r0 k + nr k ≤ r0 k' ∨ r0 k' + nr k' ≤ r0 k := by decide +kernel

theorem rk_find : ∀ n : Fin 1008, ∃ k : Fin 21, r0 k ≤ n.val ∧ n.val < r0 k + nr k := by decide +kernel

theorem mem_rk (k : Fin 21) (i : S1008x768.Idx) : i ∈ (rk k).set ↔ r0 k ≤ (i 0).val ∧ (i 0).val < r0 k + nr k := by
  rw [Rect.mem_set_unit]
  constructor
  · intro h
    exact h 0
  · intro h a
    match a with
    | ⟨0, _⟩ => exact h
    | ⟨1, _⟩ => exact ⟨Nat.zero_le _, by show (i 1).val < 0 + 768; have := (i 1).isLt; rw [Nat.zero_add]; exact this⟩

theorem rk_disj (k k' : Fin 21) (h : k ≠ k') : Disjoint (rk k).set (rk k').set := by
  rw [Finset.disjoint_left]
  intro i hi hi'
  rw [mem_rk] at hi hi'
  rcases rk_range k k' h with h | h <;> omega

theorem rk_cover : (Finset.univ : Finset (Fin 21)).biUnion (fun k => (rk k).set) = Finset.univ := by
  ext i
  refine ⟨fun _ => Finset.mem_univ _, fun _ => ?_⟩
  obtain ⟨k, hk⟩ := rk_find (i 0)
  exact Finset.mem_biUnion.mpr ⟨k, Finset.mem_univ _, (mem_rk k i).mpr hk⟩

/-- Every slot of a whole scratch buffer at contents that do not matter. -/
def Slots (m : Memref sig .tc .vmem S1008x768 .bf16) : sProp 𝕄 :=
  bigSep Finset.univ fun k : Fin 21 => iprop(∃ X, owns (c : Thread nD τ) (m.slice (rk k) (fun _ => rfl)) fullShare X)

theorem slot_any (m : Memref sig .tc .vmem S1008x768 .bf16) (k : Fin 21) (X : (rk k).shape.Idx → Elt F .bf16) :
    (owns (c : Thread nD τ) (m.slice (rk k) (fun _ => rfl)) fullShare X : sProp 𝕄)
      ⊢ iprop(∃ X, owns (c : Thread nD τ) (m.slice (rk k) (fun _ => rfl)) fullShare X) := by
  iintro H; iexists _; iexact H

theorem slots_split (m : Memref sig .tc .vmem S1008x768 .bf16) (X : S1008x768.Idx → Elt F .bf16) :
    (owns (c : Thread nD τ) m fullShare X : sProp 𝕄) ⊢ Slots c m :=
  (owns_rects (c : Thread nD τ) m fullShare rk (fun _ _ => rfl) rk_disj rk_cover X).trans
    (bigSep_mono fun k _ => slot_any c m k _)

theorem slots_join (m : Memref sig .tc .vmem S1008x768 .bf16) :
    (Slots c m : sProp 𝕄) ⊢ iprop(∃ X, owns (c : Thread nD τ) m fullShare X) := by
  unfold Slots
  haveI : ∀ k : Fin 21, Nonempty ((rk k).shape.Idx → Elt F .bf16) := fun k => ⟨fun _ => Classical.choice (Elt.nonempty F _)⟩
  refine (BI.bigSep_exists_pi Finset.univ (fun k X => owns (c : Thread nD τ) (m.slice (rk k) (fun _ => rfl)) fullShare X)).trans ?_
  iintro ⟨%Xs, H⟩
  have hg (k : Fin 21) : (fun j => Rect.glue rk rk_cover Xs ((rk k).emb j)) = Xs k := funext fun y => Rect.glue_emb rk rk_cover rk_disj Xs k y
  iexists Rect.glue rk rk_cover Xs
  iapply (owns_of_rects (c : Thread nD τ) m fullShare rk (fun _ _ => rfl) rk_disj rk_cover (Rect.glue rk rk_cover Xs))
  simp only [hg]
  iexact H

theorem scratch_owns (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem split_s : iprop(∃ f : Buf (Elt F) ((c : Thread nD τ).loc cc0_scratch0), ((c : Thread nD τ).loc cc0_scratch0) ↦{fullShare} f) ⊢ (Slots c sM : sProp 𝕄) := by
  iintro ⟨%f, H⟩
  iapply (slots_split c sM f)
  rw [scratch_owns]
  iexists f; isplitr; · ipureintro; rfl
  iexact H

theorem split_r : iprop(∃ f : Buf (Elt F) ((c : Thread nD τ).loc cc0_scratch1), ((c : Thread nD τ).loc cc0_scratch1) ↦{fullShare} f) ⊢ (Slots c rM : sProp 𝕄) := by
  iintro ⟨%f, H⟩
  iapply (slots_split c rM f)
  rw [scratch_owns]
  iexists f; isplitr; · ipureintro; rfl
  iexact H

theorem join_s : (Slots c sM : sProp 𝕄) ⊢ iprop(∃ f : Buf (Elt F) ((c : Thread nD τ).loc cc0_scratch0), ((c : Thread nD τ).loc cc0_scratch0) ↦{fullShare} f) := by
  refine (slots_join c sM).trans ?_
  iintro ⟨%X, H⟩
  ihave H' := (Entails.of_eq (scratch_owns c cc0_scratch0 X)) $$ H
  icases H' with ⟨%f, -, H⟩
  iexists f; iexact H

theorem join_r : (Slots c rM : sProp 𝕄) ⊢ iprop(∃ f : Buf (Elt F) ((c : Thread nD τ).loc cc0_scratch1), ((c : Thread nD τ).loc cc0_scratch1) ↦{fullShare} f) := by
  refine (slots_join c rM).trans ?_
  iintro ⟨%X, H⟩
  ihave H' := (Entails.of_eq (scratch_owns c cc0_scratch1 X)) $$ H
  icases H' with ⟨%f, -, H⟩
  iexists f; iexact H

/-! ## Families over the exchanges -/

/-- The transfer semaphores, by side and exchange. -/
def osem (p : Bool × Fin 21) : SemLoc sig := .dma (if p.1 then sS p.2 else rS p.2)

theorem osem_inj : Function.Injective osem := by
  rintro ⟨b, k⟩ ⟨b', k'⟩ h
  have h := SemLoc.dma.inj h
  cases b <;> cases b'
  · exact congrArg (Prod.mk false) (rS_inj h)
  · exact absurd h.symm sS_ne_rS
  · exact absurd h sS_ne_rS
  · exact congrArg (Prod.mk true) (sS_inj h)

theorem bigSep_sides (f : Bool × Fin 21 → sProp 𝕄) :
    bigSep Finset.univ f = iprop(bigSep Finset.univ (fun k => f (true, k)) ∗ bigSep Finset.univ (fun k => f (false, k))) := by
  rw [bigSep_univ_prod, show (Finset.univ : Finset Bool) = {true, false} by decide, bigSep_insert (by decide), bigSep_singleton]; rfl

theorem bigSep_dorm (Φ : SemLoc sig → sProp 𝕄) : bigSep dorm Φ = bigSep Finset.univ fun p => Φ (osem p) :=
  (congrArg (fun S => bigSep S Φ) (Finset.map_eq_image ⟨osem, osem_inj⟩ Finset.univ).symm).trans (BI.bigSep_map _)

theorem bigSep_zero (f : Fin 21 → sProp 𝕄) : bigSep Finset.univ f = iprop(f 0 ∗ bigSep ex f) := bigSep_erase (Finset.mem_univ _)

theorem toks_eq : (bigSep (fam.toks c 0) (fun x => dutyTok ER x.1 x.2.1 x.2.2) : sProp 𝕄)
    = iprop(bigSep Finset.univ (fun i => dutyTok ER (bC (xr c (bm i))) 0 c)
      ∗ bigSep Finset.univ (fun k => dutyTok ER (sC c k) 0 c) ∗ bigSep Finset.univ (fun k => dutyTok ER (rC (peer c k) k) 0 c)) := by
  refine (BI.bigSep_map _).trans ?_
  rw [bigSep_univ_sum, bigSep_univ_sum]; rfl

theorem nbrs_eq (Φ : Dev nD → sProp 𝕄) : bigSep (nbrs c) Φ = bigSep Finset.univ fun i => Φ (xr c (bm i)) :=
  (congrArg (fun S => bigSep S Φ) (Finset.map_eq_image ⟨fun i => xr c (bm i), fun _ _ h => bm_inj (xr_inj _ _ _ h)⟩ Finset.univ).symm).trans (BI.bigSep_map _)

/-! ## The launch credit -/

theorem xr_inv (i : Fin 7) (d : Dev nD) : xr (xr d (bm i)) (bm i) = d := xr_xr _ _

theorem seven_creds : (bigSep Finset.univ (fun _ : Fin 7 => cred (tallyAt (bC c) 1 1)) : sProp 𝕄) ⊢ cred (tallyAt (bC c) 1 7) := by
  have h (n : ℕ) : iprop(cred (tallyAt (bC c) 1 1) ∗ cred (tallyAt (bC c) 1 n)) ⊢ (cred (tallyAt (bC c) 1 (1 + n)) : sProp 𝕄) := by
    rw [← tallyAt_add]; exact (cred_add _ _).2
  rw [bigSep_seven]
  exact (sep_mono .rfl ((sep_mono .rfl ((sep_mono .rfl ((sep_mono .rfl ((sep_mono .rfl (h 1)).trans (h 2))).trans (h 3))).trans (h 4))).trans (h 5))).trans (h 6)

theorem cred_s (k : Fin 21) : Pipeline.launchCred (fun d => tallyAt (rC (peer d k) k) (kl k) (amt k)) c ⊢ (cred (tallyAt (rC c k) (kl k) (amt k)) : sProp 𝕄) :=
  Pipeline.launchCred_tallyAt (.dma (rS k)) (fun d => peer d k) (fun d => peer d k) (fun d => peer_peer d k) (fun d => peer_peer d k) _ _ c

theorem cred_b (i : Fin 7) : Pipeline.launchCred (fun d => tallyAt (bC (xr d (bm i))) 1 1) c ⊢ (cred (tallyAt (bC c) 1 1) : sProp 𝕄) :=
  Pipeline.launchCred_tallyAt (.reg bS) (fun d => xr d (bm i)) (fun d => xr d (bm i)) (fun d => xr_xr d _) (fun d => xr_xr d _) _ _ c

theorem creds : Pipeline.launchCred due0 c ⊢ (iprop(cred (tallyAt (bC c) 1 7) ∗ bigSep ex (fun k => cred (tallyAt (rC c k) (kl k) (amt k)))) : sProp 𝕄) := by
  have e : (Pipeline.launchCred due0 c : sProp 𝕄) = iprop(Pipeline.launchCred (fun d => dueS d ex) c ∗ Pipeline.launchCred (fun d => dueB d Finset.univ) c) :=
    Pipeline.launchCred_add (fun d => dueS d ex) (fun d => dueB d Finset.univ) c
  have e1 : (Pipeline.launchCred (fun d => dueS d ex) c : sProp 𝕄) = bigSep ex fun k => Pipeline.launchCred (fun d => tallyAt (rC (peer d k) k) (kl k) (amt k)) c :=
    Pipeline.launchCred_sum ex (fun k d => tallyAt (rC (peer d k) k) (kl k) (amt k)) c
  have e2 : (Pipeline.launchCred (fun d => dueB d Finset.univ) c : sProp 𝕄) = bigSep Finset.univ fun i : Fin 7 => Pipeline.launchCred (fun d => tallyAt (bC (xr d (bm i))) 1 1) c :=
    Pipeline.launchCred_sum Finset.univ (fun i d => tallyAt (bC (xr d (bm i))) 1 1) c
  rw [e, e1, e2]
  exact (BI.sep_mono (bigSep_mono fun k _ => cred_s c k) ((bigSep_mono fun i _ => cred_b c i).trans (seven_creds c))).trans sep_comm

/-! ## Into the kernel -/

/-- What a device has of the protocol at the kernel's entry, its transfer cells open. -/
def Entry : sProp 𝕄 :=
  iprop(atPos ER (bC c) 0 ∅ 0 ∗ bigSep (nbrs c) (fun d => reached ER (bC d) 0)
    ∗ bigSep Finset.univ (fun p : Bool × Fin 21 => iprop(atPos ER ((c : Thread nD τ), osem p) 0 ∅ 0 ∗ reached ER ((c : Thread nD τ), osem p) 0))
    ∗ bigSep (fam.toks c 0) (fun x => dutyTok ER x.1 x.2.1 x.2.2) ∗ Pipeline.launchCred due0 c)

/-- What the kernel does not use. -/
def Rest : sProp 𝕄 := iprop(atPos ER (sC c 0) 0 ∅ 0 ∗ atPos ER (rC c 0) 0 ∅ 0 ∗ Slot c 0 ∗ Land c 0)

theorem ready_one (k : Fin 21) :
    iprop((atPos ER (sC c k) 0 ∅ 0 ∗ reached ER (sC c k) 0) ∗ (atPos ER (rC c k) 0 ∅ 0 ∗ reached ER (rC c k) 0)
      ∗ dutyTok ER (sC c k) 0 c ∗ dutyTok ER (rC (peer c k) k) 0 c ∗ cred (tallyAt (rC c k) (kl k) (amt k)) ∗ Land c k)
    ⊢ (iprop(free c k ∗ Ready c k) : sProp 𝕄) := by
  unfold free Ready
  iintro ⟨⟨H1, H2⟩, ⟨H3, H4⟩, H5, H6, H7, H8⟩
  iframe # ∗

theorem ready_all :
    iprop((bigSep ex fun k => iprop(atPos ER (sC c k) 0 ∅ 0 ∗ reached ER (sC c k) 0)) ∗ (bigSep ex fun k => iprop(atPos ER (rC c k) 0 ∅ 0 ∗ reached ER (rC c k) 0))
      ∗ (bigSep ex fun k => dutyTok ER (sC c k) 0 c) ∗ (bigSep ex fun k => dutyTok ER (rC (peer c k) k) 0 c)
      ∗ (bigSep ex fun k => cred (tallyAt (rC c k) (kl k) (amt k))) ∗ bigSep ex (Land c))
    ⊢ (iprop(bigSep ex (fun k => free c k) ∗ bigSep ex (Ready c)) : sProp 𝕄) := by
  rw [← bigSep_sep', ← bigSep_sep', ← bigSep_sep', ← bigSep_sep', ← bigSep_sep', ← bigSep_sep']
  exact bigSep_mono fun k _ => ready_one c k

theorem sides (Φ : GSem nD τ sig → sProp 𝕄) : (bigSep Finset.univ fun p : Bool × Fin 21 => Φ ((c : Thread nD τ), osem p))
    = iprop((Φ (sC c 0) ∗ bigSep ex fun k => Φ (sC c k)) ∗ (Φ (rC c 0) ∗ bigSep ex fun k => Φ (rC c k))) := by
  rw [bigSep_sides, bigSep_zero, bigSep_zero]; rfl

theorem enter : iprop(Entry c ∗ Slots c sM ∗ Slots c rM)
    ⊢ (iprop(Rest c ∗ bigSep Finset.univ (Sg c) ∗ bigSep ex (fun k => free c k) ∗ bigSep ex (Ready c) ∗ bigSep ex (Slot c)
      ∗ cred (tallyAt (bC c) 1 7) ∗ atPos ER (bC c) 0 ∅ 0) : sProp 𝕄) := by
  have e1 : (Slots c sM : sProp 𝕄) = iprop(Slot c 0 ∗ bigSep ex (Slot c)) := bigSep_zero (Slot c)
  have e2 : (Slots c rM : sProp 𝕄) = iprop(Land c 0 ∗ bigSep ex (Land c)) := bigSep_zero (Land c)
  have e3 : (bigSep Finset.univ (Sg c) : sProp 𝕄) = iprop(bigSep Finset.univ (fun i => reached ER (bC (xr c (bm i))) 0) ∗ bigSep Finset.univ (fun i => dutyTok ER (bC (xr c (bm i))) 0 c)) :=
    bigSep_sep' _ _ _
  unfold Entry Rest
  rw [e1, e2, e3, nbrs_eq, toks_eq, sides c (fun g => iprop(atPos ER g 0 ∅ 0 ∗ reached ER g 0)), bigSep_zero (fun k => dutyTok ER (sC c k) 0 c),
    bigSep_zero (fun k => dutyTok ER (rC (peer c k) k) 0 c)]
  iintro ⟨⟨HB, HN, ⟨⟨⟨HS0, -⟩, HS⟩, ⟨⟨HR0, -⟩, HR⟩⟩, ⟨HT1, ⟨-, HT2⟩, ⟨-, HT3⟩⟩, HC⟩, ⟨HL0, HL⟩, ⟨HK0, HK⟩⟩
  ihave HC' := (creds c) $$ HC
  icases HC' with ⟨HC1, HC2⟩
  ihave HA := (ready_all c) $$ [HS HR HT2 HT3 HC2 HK]
  · iframe # ∗
  icases HA with ⟨HF, HY⟩
  iframe # ∗

/-! ## Out of the kernel -/

/-- The round at which a transfer cell ends. -/
def endR (p : Bool × Fin 21) : ℕ := if p.2 = 0 then 0 else 0 + 1

variable (I : Dev nD → Inp F)

theorem end_duties (p : Bool × Fin 21) (r : ℕ) (h : endR p ≤ r) : (sched I).duties ((c : Thread nD τ), osem p) r = ∅ := by
  obtain ⟨b, k⟩ := p
  by_cases hk : k = 0
  · subst hk
    cases b
    · exact duties_r0 I c r
    · exact duties_s0 I c r
  · exact duties_later I _ r (by simpa [endR, hk] using h)

theorem done_one (k : Fin 21) : (Done c k : sProp 𝕄) ⊢ iprop(atPos ER (sC c k) (0 + 1) ∅ 0 ∗ atPos ER (rC c k) (0 + 1) ∅ 0) := .rfl

theorem ends : iprop(atPos ER (sC c 0) 0 ∅ 0 ∗ atPos ER (rC c 0) 0 ∅ 0 ∗ bigSep ex (Done c))
    ⊢ (bigSep Finset.univ (fun p : Bool × Fin 21 => atPos ER ((c : Thread nD τ), osem p) (endR p) ∅ 0) : sProp 𝕄) := by
  have e : (bigSep ex (Done c) : sProp 𝕄) = iprop(bigSep ex (fun k => atPos ER (sC c k) (0 + 1) ∅ 0) ∗ bigSep ex (fun k => atPos ER (rC c k) (0 + 1) ∅ 0)) :=
    bigSep_sep' _ _ _
  have hs : (bigSep ex (fun k => atPos ER (sC c k) (0 + 1) ∅ 0) : sProp 𝕄) = bigSep ex fun k => atPos ER ((c : Thread nD τ), osem (true, k)) (endR (true, k)) ∅ 0 :=
    bigSep_congr fun k hk => by unfold endR; rw [if_neg (Finset.ne_of_mem_erase hk)]; rfl
  have hr : (bigSep ex (fun k => atPos ER (rC c k) (0 + 1) ∅ 0) : sProp 𝕄) = bigSep ex fun k => atPos ER ((c : Thread nD τ), osem (false, k)) (endR (false, k)) ∅ 0 :=
    bigSep_congr fun k hk => by unfold endR; rw [if_neg (Finset.ne_of_mem_erase hk)]; rfl
  rw [e, hs, hr, bigSep_sides, bigSep_zero, bigSep_zero]
  iintro ⟨H1, H2, H3, H4⟩
  isplitl [H1 H3]
  · isplitl [H1]; · iexact H1
    iexact H3
  isplitl [H2]; · iexact H2
  iexact H4

variable (κ : GSem nD τ sig → ℕ)

theorem inv_one (p : Bool × Fin 21) : fam.cellInvs ER (sched I) κ ⊢ (cellInv ER (sched I) (κ ((c : Thread nD τ), osem p)) ((c : Thread nD τ), osem p) : sProp 𝕄) :=
  fam.cellInvs_dorm ER (sched I) κ c (j := 0) (Finset.mem_image.mpr ⟨p, Finset.mem_univ _, rfl⟩)

theorem open_one (p : Bool × Fin 21) : iprop(fam.cellInvs ER (sched I) κ ∗ openTok ER ((c : Thread nD τ), osem p))
    ⊢ (iprop(cellInv ER (sched I) (κ ((c : Thread nD τ), osem p)) ((c : Thread nD τ), osem p) ∗ openTok ER ((c : Thread nD τ), osem p)) : sProp 𝕄) :=
  sep_mono (inv_one c I κ p) .rfl

theorem end_one (p : Bool × Fin 21) : iprop(fam.cellInvs ER (sched I) κ ∗ atPos ER ((c : Thread nD τ), osem p) (endR p) ∅ 0)
    ⊢ (iprop(cellInv ER (sched I) (κ ((c : Thread nD τ), osem p)) ((c : Thread nD τ), osem p) ∗ atPos ER ((c : Thread nD τ), osem p) (endR p) ∅ 0) : sProp 𝕄) :=
  sep_mono (inv_one c I κ p) .rfl

/-- The transfer cells opened. -/
theorem opens : iprop(fam.cellInvs ER (sched I) κ ∗ bigSep dorm (fun sm => openTok ER ((c : Thread nD τ), sm))
      ∗ bigSep Finset.univ (fun p : Bool × Fin 21 => semVal ((c : Thread nD τ), osem p) 0))
    ⊢ (|={Set.univ}=> bigSep Finset.univ (fun p : Bool × Fin 21 => iprop(atPos ER ((c : Thread nD τ), osem p) 0 ∅ 0 ∗ reached ER ((c : Thread nD τ), osem p) 0)) : sProp 𝕄) := by
  rw [bigSep_dorm]
  iintro ⟨#HI, HT, HV⟩
  iapply (cells_open ER (sched I) Finset.univ (fun p : Bool × Fin 21 => ((c : Thread nD τ), osem p)) (fun p => κ ((c : Thread nD τ), osem p)) (fun _ _ => Set.mem_univ _))
  isplitl [HT]
  · iapply (bigSep_with_persistent (R := fam.cellInvs ER (sched I) κ) fun p _ => open_one c I κ p)
    isplitr; · iexact HI
    iexact HT
  iexact HV

/-- The transfer cells closed. -/
theorem closes : iprop(fam.cellInvs ER (sched I) κ ∗ bigSep Finset.univ (fun p : Bool × Fin 21 => atPos ER ((c : Thread nD τ), osem p) (endR p) ∅ 0))
    ⊢ (|={Set.univ}=> bigSep Finset.univ (fun p : Bool × Fin 21 => semVal ((c : Thread nD τ), osem p) 0) : sProp 𝕄) :=
  (bigSep_with_persistent (R := fam.cellInvs ER (sched I) κ) fun p _ => end_one c I κ p).trans
    (cells_close ER (sched I) Finset.univ (fun p : Bool × Fin 21 => ((c : Thread nD τ), osem p)) (fun p => κ ((c : Thread nD τ), osem p)) (fun _ _ => Set.mem_univ _)
      (fun _ _ => id) endR (fun p _ r h => end_duties c I p r h))

/-- The invariants as the step rules take them. -/
def invs : Invs I κ where
  P := fam.cellInvs ER (sched I) κ
  pers := inferInstance
  s c k := fam.cellInvs_dorm ER (sched I) κ c (j := 0) (mem_dorm_s k)
  r c k := fam.cellInvs_dorm ER (sched I) κ c (j := 0) (mem_dorm_r k)
  b c := fam.cellInvs_bar ER (sched I) κ c

end Cert.Exch
-- ==== Proof.Launch.lean ====
/-
The launch: the kernel's data, its run under the pipeline, the program's run.
-/
module

public import proofs.«01_k».proof.Proof.Entry
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.TalkSites (Fam)
open Idealize.ShloMosaic.ValueIdx

variable {F : FTy → Type} [FloatOps F]

local notation "𝕄" => MT nD τ sig ℕ (Elt F) ℕ UU ℕ

open Idealize.ShloMosaic.Pipeline (Dat Seg HostSeg RegionSeg)

/-! ## The kernel as the launch calls it -/

section Talk

variable (I : Dev nD → Inp F)

/-- What the body takes, with its cells opened and its scratch slot by slot. -/
def TalkPre (c : Dev nD) (g : Acc F) (W : Waits sig ℕ) : sProp 𝕄 :=
  iprop(Entry c ∗ Slots c sM ∗ Slots c rM ∗ owes (c : Thread nD τ) (due0 c) W
    ∗ SX I c ∗ SQ I c ∗ SW I c ∗ SK I c ∗ SV I c ∗ Out c g)

/-- What the body leaves, with its cells not yet closed. -/
def TalkPost (c : Dev nD) : sProp 𝕄 :=
  iprop(bigSep Finset.univ (fun p : Bool × Fin 21 => atPos ER ((c : Thread nD τ), osem p) (endR p) ∅ 0)
    ∗ Slots c sM ∗ Slots c rM ∗ Ow c ∅ ∗ atPos ER (bC c) (0 + 1) ∅ 0
    ∗ SX I c ∗ SQ I c ∗ SW I c ∗ SK I c ∗ SV I c ∗ Out c (gF I c 4))

theorem to_body (c : Dev nD) (g : Acc F) (W : Waits sig ℕ) : TalkPre I c g W ⊢ iprop(Rest c ∗ BodyPre I c g W) := by
  unfold TalkPre BodyPre
  rw [show due0 c = dueS c ex + dueB c Finset.univ from rfl]
  iintro ⟨HE, H1, H2, HO, HX, HQ, HW, HK, HV, Hg⟩
  ihave H := (enter c) $$ [HE H1 H2]
  · iframe
  icases H with ⟨HR, Ha, Hb, Hc, Hd, He, Hf⟩
  iframe

theorem of_body (c : Dev nD) : iprop(Rest c ∗ BodyPost I c) ⊢ TalkPost I c := by
  unfold TalkPost BodyPost Rest Slots
  rw [bigSep_zero (fun k => iprop(∃ X, owns (c : Thread nD τ) (sM.slice (rk k) (fun _ => rfl)) fullShare X)),
    bigSep_zero (fun k => iprop(∃ X, owns (c : Thread nD τ) (rM.slice (rk k) (fun _ => rfl)) fullShare X))]
  iintro ⟨⟨Ha, Hb, Hs, Hl⟩, Hd, HS, HL, HO, HB, HX, HQ, HW, HK, HV, Hg⟩
  ihave He := (ends c) $$ [Ha Hb Hd]
  · iframe
  isplitl [He]; · iexact He
  isplitl [Hs HS]
  · isplitl [Hs]; · iexact Hs
    iexact HS
  isplitl [Hl HL]
  · isplitl [Hl]; · iexact Hl
    iexact HL
  iframe

variable {κ : GSem nD τ sig → ℕ}
variable (V : Invs I κ)

/-- The body run, from what the launch hands over to what goes back to it. -/
theorem talk (c : Dev nD) (g : Acc F) (W : Waits sig ℕ) {Q : PUnit → sProp 𝕄} :
    iprop(V.P ∗ levAts (L 8) lv ∗ TalkPre I c g W)
      ⊢ iprop((TalkPost I c -∗ Q ⟨⟩) -∗ Run c Q (cc0_body xM (Memref.isWhole_whole _) qM (Memref.isWhole_whole _) wM (Memref.isWhole_whole _) kM (Memref.isWhole_whole _)
        vM (Memref.isWhole_whole _) oM (Memref.isWhole_whole _) sM (Memref.isWhole_whole _) rM (Memref.isWhole_whole _) cc0_scratch2 cc0_scratch3)) := by
  iintro ⟨HP, HL, HT⟩ Hk
  ihave H := (to_body I c g W) $$ HT
  icases H with ⟨HR, HB⟩
  iapply (body_run I V c g W (Q := Q)) $$ [HP HL HB]
  · isplitl [HP]; · iexact HP
    isplitl [HL] <;> iassumption
  iintro HP
  iapply Hk
  iapply (of_body I c)
  isplitl [HR] <;> iassumption

/-- The body run, with its cells closed when it ends. -/
theorem talk_close {P R : sProp 𝕄} (hp : BI.Persistent P) (hs : ∀ c k, P ⊢ cellInv ER (sched I) (κ (sC c k)) (sC c k))
    (hr : ∀ c k, P ⊢ cellInv ER (sched I) (κ (rC c k)) (rC c k)) (hb : ∀ c, P ⊢ cellInv ER (sched I) (κ (bC c)) (bC c))
    (c : Dev nD) (g : Acc F) (W : Waits sig ℕ) (hR : iprop(P ∗ TalkPost I c) ⊢ (|={Set.univ}=> R : sProp 𝕄)) {Q : PUnit → sProp 𝕄} :
    iprop(P ∗ levAts (L 8) lv ∗ TalkPre I c g W)
      ⊢ iprop((R -∗ Q ⟨⟩) -∗ Run c Q (cc0_body xM (Memref.isWhole_whole _) qM (Memref.isWhole_whole _) wM (Memref.isWhole_whole _) kM (Memref.isWhole_whole _)
        vM (Memref.isWhole_whole _) oM (Memref.isWhole_whole _) sM (Memref.isWhole_whole _) rM (Memref.isWhole_whole _) cc0_scratch2 cc0_scratch3)) := by
  iintro ⟨#HP, HL, HT⟩ Hk
  iapply (wp_fupd _ _ _ _ _)
  iapply (talk I (Invs.mk P hp hs hr hb) c g W) $$ [HL HT]
  · isplitr; · iexact HP
    isplitl [HL] <;> iassumption
  iintro HT
  imod hR $$ [HT] with HR
  · isplitr; · iexact HP
    iexact HT
  imodintro
  iapply Hk; iexact HR

end Talk

/-! ## The data of the launch -/

variable (m : (ℓ : Loc nD τ sig) → Buf (Elt F) ℓ) (ρ : Dev nD → PrngReg)

/-- Each device's operands when the kernel is entered. -/
def inp (c : Dev nD) : Inp F where
  x := V1 m c main_arg0
  wq := V1 m c main_arg1
  wo := V1 m c main_arg2
  k := V1 m c main_v15
  v := V1 m c main_v16

/-- Each device's result. -/
def outs : Outs (F := F) := fun _ r c =>
  if h : r = main_v17 then (Eq.rec (motive := fun r' _ => Buf (Elt F) ((c : Thread nD τ).loc r')) (gF (inp m) c 4) h.symm) else V1 m c r

theorem outs_eq (n : ℕ) (c : Dev nD) : outs m n main_v17 c = gF (inp m) c 4 := dif_pos rfl

/-- What enters the kernel's invariant: its cells open. -/
def Xk (c : Dev nD) : sProp 𝕄 := iprop((∃ κ, fam.cellInvs ER (sched (inp m)) κ ∗ Entry c) ∗ levAts (L 8) lv)

/-- The scratch buffers, at contents that do not matter. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The barrier counter, when the kernel has run. -/
def Yk (c : Dev nD) : sProp 𝕄 := fam.barPos ER (sched (inp m)) c (0 + 1) ∅

def Φ₀ (c : Dev nD) : sProp 𝕄 := iprop(Scr c ∗ (∃ r, prngReg c r) ∗ Xk m c)
def Φ₁ (c : Dev nD) : sProp 𝕄 :=
  iprop(Scr c ∗ (∃ r, prngReg c r) ∗ bigSep Finset.univ (fun p : Bool × Fin 21 => semVal ((c : Thread nD τ), osem p) 0) ∗ Yk m c)

def dats (_ : Fin 1) (c : Dev nD) : Dat τ (Elt F) ℕ ℕ UU ℕ cfg0 c where
  A w := V1 m c (Proc.devRef .tc (Pipeline.arrRef cfg0.spec w))
  after w _ := match w with
    | ⟨0, _⟩ => (inp m c).x
    | ⟨1, _⟩ => (inp m c).wq
    | ⟨2, _⟩ => (inp m c).wo
    | ⟨3, _⟩ => (inp m c).k
    | ⟨4, _⟩ => (inp m c).v
    | ⟨5, _⟩ => gF (inp m) c 4
  Φ t := match t with
    | ⟨0, _⟩ => Φ₀ m c
    | ⟨_ + 1, _⟩ => Φ₁ m c
  q _ := fullShare
  owed t := match t with
    | ⟨0, _⟩ => due0 c
    | ⟨_ + 1, _⟩ => 0

/-! ## The body at the launch's data -/

theorem scr_split (c : Dev nD) : (Scr c : sProp 𝕄) ⊢ iprop(Slots c sM ∗ Slots c rM) := by
  unfold Scr
  exact BI.sep_mono (split_s c) (split_r c)

theorem scr_join (c : Dev nD) : (iprop(Slots c sM ∗ Slots c rM) : sProp 𝕄) ⊢ Scr c := by
  unfold Scr
  exact BI.sep_mono (join_s c) (join_r c)

/-- The six staging buffers at their contents: the operands, and `g` in the result's. -/
def Stages (c : Dev nD) (g : Acc F) : sProp 𝕄 :=
  iprop(SX (inp m) c ∗ SQ (inp m) c ∗ SW (inp m) c ∗ SK (inp m) c ∗ SV (inp m) c ∗ Out c g)

/-- What is left once the cells are closed. -/
def Left (c : Dev nD) : sProp 𝕄 :=
  iprop(Scr c ∗ bigSep Finset.univ (fun p : Bool × Fin 21 => semVal ((c : Thread nD τ), osem p) 0) ∗ Yk m c ∗ Ow c ∅ ∗ Stages m c (gF (inp m) c 4))

theorem leave (c : Dev nD) (κ : GSem nD τ sig → ℕ) :
    iprop(fam.cellInvs ER (sched (inp m)) κ ∗ TalkPost (inp m) c) ⊢ (|={Set.univ}=> Left m c : sProp 𝕄) := by
  unfold TalkPost Left Yk Fam.barPos Stages
  rw [bigSep_empty]
  iintro ⟨#HI, He, H1, H2, HO, HB, HX, HQ, HW, HK, HV, Hg⟩
  imod (closes c (inp m) κ) $$ [He] with He
  · isplitr; · iexact HI
    iexact He
  imodintro
  isplitl [H1 H2]
  · iapply (scr_join c); isplitl [H1] <;> iassumption
  isplitl [He]; · iexact He
  isplitl [HB]
  · isplitr; · iexists κ; iexact HI
    isplitl [HB]; · iexact HB
    iempintro
  iframe

theorem talk_open (c : Dev nD) (κ : GSem nD τ sig → ℕ) (g : Acc F) (W : Waits sig ℕ) {Q : PUnit → sProp 𝕄} :
    iprop(fam.cellInvs ER (sched (inp m)) κ ∗ levAts (L 8) lv ∗ TalkPre (inp m) c g W)
      ⊢ iprop((Left m c -∗ Q ⟨⟩) -∗ Run c Q (cc0_body xM (Memref.isWhole_whole _) qM (Memref.isWhole_whole _) wM (Memref.isWhole_whole _) kM (Memref.isWhole_whole _)
        vM (Memref.isWhole_whole _) oM (Memref.isWhole_whole _) sM (Memref.isWhole_whole _) rM (Memref.isWhole_whole _) cc0_scratch2 cc0_scratch3)) :=
  talk_close (inp m) (κ := κ) inferInstance (fun c k => fam.cellInvs_dorm ER (sched (inp m)) κ c (j := 0) (mem_dorm_s k))
    (fun c k => fam.cellInvs_dorm ER (sched (inp m)) κ c (j := 0) (mem_dorm_r k)) (fun c => fam.cellInvs_bar ER (sched (inp m)) κ c) c g W (leave m c κ)

theorem talk_wrap (c : Dev nD) (g : Acc F) (W : Waits sig ℕ) {A : (GSem nD τ sig → ℕ) → sProp 𝕄} {B R : sProp 𝕄}
    (h : ∀ κ, iprop(A κ ∗ levAts (L 8) lv ∗ TalkPre (inp m) c g W) ⊢ iprop(B -∗ R)) :
    iprop(Scr c ∗ ((∃ κ, A κ ∗ Entry c) ∗ levAts (L 8) lv) ∗ owes (c : Thread nD τ) (due0 c) W ∗ Stages m c g) ⊢ iprop(B -∗ R) := by
  unfold Stages
  iintro ⟨HS, ⟨⟨%κ, HI, HE⟩, HL⟩, HO, HX, HQ, HW, HK, HV, Hg⟩ Hk
  ihave H := (scr_split c) $$ HS
  icases H with ⟨H1, H2⟩
  iapply (h κ) $$ [HI HL HE H1 H2 HO HX HQ HW HK HV Hg]
  · unfold TalkPre
    iframe
  iexact Hk

/-- The body with its cells opened before and closed after. -/
theorem body_talk (c : Dev nD) (g : Acc F) (W : Waits sig ℕ) {Q : PUnit → sProp 𝕄} :
    iprop(Scr c ∗ Xk m c ∗ owes (c : Thread nD τ) (due0 c) W ∗ Stages m c g)
      ⊢ iprop((Left m c -∗ Q ⟨⟩) -∗ Run c Q (cc0_body xM (Memref.isWhole_whole _) qM (Memref.isWhole_whole _) wM (Memref.isWhole_whole _) kM (Memref.isWhole_whole _)
        vM (Memref.isWhole_whole _) oM (Memref.isWhole_whole _) sM (Memref.isWhole_whole _) rM (Memref.isWhole_whole _) cc0_scratch2 cc0_scratch3)) := by
  unfold Xk
  exact talk_wrap m c g W (fun κ => talk_open m c κ g W)

theorem before_0 (c : Dev nD) (d) : (dats m 0 c).before (0 : Fin 6) t0_0 d = (inp m c).x := by
  unfold Dat.before; rw [if_pos (fetch0_0 t0_0)]; funext j
  show V1 m c main_arg0 (((win0_0.blk t0_0).view.emb j)) = V1 m c main_arg0 j
  congr 1; funext a; apply Fin.ext
  blk_simp
  exact (congrArg (· + (j a).val) (Nat.zero_mul (win0_0.size a))).trans (Nat.zero_add _)
theorem before_1 (c : Dev nD) (d) : (dats m 0 c).before (1 : Fin 6) t0_0 d = (inp m c).wq := by
  unfold Dat.before; rw [if_pos (fetch0_1 t0_0)]; funext j
  show V1 m c main_arg1 (((win0_1.blk t0_0).view.emb j)) = V1 m c main_arg1 j
  congr 1; funext a; apply Fin.ext
  blk_simp
  exact (congrArg (· + (j a).val) (Nat.zero_mul (win0_1.size a))).trans (Nat.zero_add _)
theorem before_2 (c : Dev nD) (d) : (dats m 0 c).before (2 : Fin 6) t0_0 d = (inp m c).wo := by
  unfold Dat.before; rw [if_pos (fetch0_2 t0_0)]; funext j
  show V1 m c main_arg2 (((win0_2.blk t0_0).view.emb j)) = V1 m c main_arg2 j
  congr 1; funext a; apply Fin.ext
  blk_simp
  exact (congrArg (· + (j a).val) (Nat.zero_mul (win0_2.size a))).trans (Nat.zero_add _)
theorem before_3 (c : Dev nD) (d) : (dats m 0 c).before (3 : Fin 6) t0_0 d = (inp m c).k := by
  unfold Dat.before; rw [if_pos (fetch0_3 t0_0)]; funext j
  show V1 m c main_v15 (((win0_3.blk t0_0).view.emb j)) = V1 m c main_v15 j
  congr 1; funext a; apply Fin.ext
  blk_simp
  exact (congrArg (· + (j a).val) (Nat.zero_mul (win0_3.size a))).trans (Nat.zero_add _)
theorem before_4 (c : Dev nD) (d) : (dats m 0 c).before (4 : Fin 6) t0_0 d = (inp m c).v := by
  unfold Dat.before; rw [if_pos (fetch0_4 t0_0)]; funext j
  show V1 m c main_v16 (((win0_4.blk t0_0).view.emb j)) = V1 m c main_v16 j
  congr 1; funext a; apply Fin.ext
  blk_simp
  exact (congrArg (· + (j a).val) (Nat.zero_mul (win0_4.size a))).trans (Nat.zero_add _)

/-- The staging buffers as the pipeline hands them over. -/
def StagedPre (c : Dev nD) : sProp 𝕄 :=
  iprop((∃ d, owns (c : Thread nD τ) (Memref.whole cc0_stg0_0) fullShare ((dats m 0 c).before (0 : Fin 6) t0_0 d))
    ∗ (∃ d, owns (c : Thread nD τ) (Memref.whole cc0_stg1_0) fullShare ((dats m 0 c).before (1 : Fin 6) t0_0 d))
    ∗ (∃ d, owns (c : Thread nD τ) (Memref.whole cc0_stg2_0) fullShare ((dats m 0 c).before (2 : Fin 6) t0_0 d))
    ∗ (∃ d, owns (c : Thread nD τ) (Memref.whole cc0_stg3_0) fullShare ((dats m 0 c).before (3 : Fin 6) t0_0 d))
    ∗ (∃ d, owns (c : Thread nD τ) (Memref.whole cc0_stg4_0) fullShare ((dats m 0 c).before (4 : Fin 6) t0_0 d))
    ∗ (∃ d, owns (c : Thread nD τ) (Memref.whole cc0_stg5_0) fullShare ((dats m 0 c).before (5 : Fin 6) t0_0 d)))

/-- The staging buffers as the body leaves them. -/
def StagedPost (c : Dev nD) : sProp 𝕄 :=
  iprop(owns (c : Thread nD τ) (Memref.whole cc0_stg0_0) fullShare ((dats m 0 c).after (0 : Fin 6) t0_0)
    ∗ owns (c : Thread nD τ) (Memref.whole cc0_stg1_0) fullShare ((dats m 0 c).after (1 : Fin 6) t0_0)
    ∗ owns (c : Thread nD τ) (Memref.whole cc0_stg2_0) fullShare ((dats m 0 c).after (2 : Fin 6) t0_0)
    ∗ owns (c : Thread nD τ) (Memref.whole cc0_stg3_0) fullShare ((dats m 0 c).after (3 : Fin 6) t0_0)
    ∗ owns (c : Thread nD τ) (Memref.whole cc0_stg4_0) fullShare ((dats m 0 c).after (4 : Fin 6) t0_0)
    ∗ owns (c : Thread nD τ) (Memref.whole cc0_stg5_0) fullShare ((dats m 0 c).after (5 : Fin 6) t0_0))

theorem staged_pre (c : Dev nD) : StagedPre m c ⊢ iprop(∃ g, Stages m c g) := by
  unfold StagedPre Stages
  simp only [scratch_owns, before_0, before_1, before_2, before_3, before_4]
  iintro ⟨⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0 h1 h2 h3 h4
  iexists f5
  unfold SX SQ SW SK SV Out
  iframe

theorem staged_post (c : Dev nD) : Stages m c (gF (inp m) c 4) ⊢ StagedPost m c := by
  unfold StagedPost Stages SX SQ SW SK SV Out
  simp only [scratch_owns]
  iintro ⟨H0, H1, H2, H3, H4, H5⟩
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem owes_in (c : Dev nD) : (dats m 0 c).owesAt 0 t0_0.castSucc ⊢ (iprop(∃ W, owes (c : Thread nD τ) (due0 c) W) : sProp 𝕄) := by
  unfold Dat.owesAt Pipeline.owesWithin
  iintro ⟨%W, -, H⟩
  iexists W; iexact H

theorem owes_out (c : Dev nD) : (Ow c ∅ : sProp 𝕄) ⊢ (dats m 0 c).owesAt 0 t0_0.succ := by
  unfold Dat.owesAt Pipeline.owesWithin Ow
  iintro ⟨%W, H⟩
  iexists W
  isplitr; · ipureintro; exact fun _ _ => Or.inl trivial
  iexact H

theorem body_obligation (c : Dev nD) : Pipeline.BodyObligation (dats m 0 c) (defs₀ (F := F)) 𝒱₀ 0 Set.univ := fun t => by
  rw [fin_N0 t]
  rw [bigSep_W0, bigSep_W0]
  show iprop(Φ₀ m c ∗ (dats m 0 c).owesAt 0 t0_0.castSucc ∗ StagedPre m c)
    ⊢ Run c (fun _ => iprop(Φ₁ m c ∗ (dats m 0 c).owesAt 0 t0_0.succ ∗ StagedPost m c)) (cc0_body xM (Memref.isWhole_whole _) qM (Memref.isWhole_whole _) wM (Memref.isWhole_whole _) kM (Memref.isWhole_whole _)
        vM (Memref.isWhole_whole _) oM (Memref.isWhole_whole _) sM (Memref.isWhole_whole _) rM (Memref.isWhole_whole _) cc0_scratch2 cc0_scratch3)
  unfold Φ₀ Φ₁
  iintro ⟨⟨HS, HG, HX⟩, HO, HT⟩
  ihave HO := (owes_in m c) $$ HO
  icases HO with ⟨%W, HO⟩
  ihave HT := (staged_pre m c) $$ HT
  icases HT with ⟨%g, HT⟩
  iapply (body_talk m c g W) $$ [HS HX HO HT]
  · iframe
  unfold Left
  iintro ⟨HS, HV, HY, HO, HT⟩
  isplitl [HS HG HV HY]
  · iframe
  isplitl [HO]
  · iapply (owes_out m c); iexact HO
  iapply (staged_post m c); iexact HT

/-! ## The region -/

/-- The buffers that no window stages. -/
def others : Finset (DevRef τ sig) := Pipeline.ucRefs τ sig \ Pipeline.arrRefs cfg0.spec

theorem arr_sub : Pipeline.arrRefs cfg0.spec ⊆ Pipeline.ucRefs τ sig := by decide +kernel

/-- What a device brings to the kernel from the program's launch. -/
def Tk (c : Dev nD) : sProp 𝕄 := iprop(Pipeline.launchCred due0 c ∗ fam.launched ER (sched (inp m)) nbrs c)

theorem open_wrap {A : (GSem nD τ sig → ℕ) → sProp 𝕄} (hA : ∀ κ, BI.Persistent (A κ)) {C B N D T O S Lv : sProp 𝕄}
    (h : ∀ κ, iprop(A κ ∗ D ∗ S) ⊢ (|={Set.univ}=> O : sProp 𝕄)) :
    iprop((C ∗ ((∃ κ, A κ) ∗ B ∗ N) ∗ ((∃ κ, A κ) ∗ D ∗ T)) ∗ S ∗ Lv) ⊢ (|={Set.univ}=> iprop((∃ κ, A κ ∗ (B ∗ N ∗ O ∗ T ∗ C)) ∗ Lv) : sProp 𝕄) := by
  iintro ⟨⟨HC, ⟨-, HB, HN⟩, ⟨%κ, HI⟩, HD, HT⟩, HS, HL⟩
  haveI := hA κ
  icases HI with #HI
  imod (h κ) $$ [HD HS] with HO
  · isplitr; · iexact HI
    isplitl [HD] <;> iassumption
  imodintro
  isplitr [HL]
  · iexists κ
    isplitr; · iexact HI
    isplitl [HB]; · iexact HB
    isplitl [HN]; · iexact HN
    isplitl [HO]; · iexact HO
    isplitl [HT] <;> iassumption
  iexact HL

theorem open_k (c : Dev nD) : iprop(Tk m c ∗ Pipeline.ownSems0 osem c ∗ levAts (L 8) lv) ⊢ (|={Set.univ}=> Xk m c : sProp 𝕄) := by
  unfold Tk Xk Fam.launched Fam.barPos Fam.rides Entry
  rw [show (Finset.univ : Finset (Fin 1)) = {0} from rfl, BI.bigSep_singleton]
  exact open_wrap (fun κ => inferInstance) (fun κ => opens c (inp m) κ)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem due0_level (c : Dev nD) (g : GSem nD τ sig) (i : ℕ) (h : 0 < due0 c g i) : i ∈ L 8 g ∧ 0 < lv g i := by
  unfold due0 at h
  rw [Pi.add_apply, Finsupp.add_apply] at h
  rcases Nat.add_pos_iff_pos_or_pos.mp h with h | h
  · obtain ⟨k', hk', rfl, rfl⟩ := dueS_pos h
    exact ⟨mem_L' rfl (kl_lt k').2, Nat.lt_of_succ_lt (kl_lt k').1⟩
  · obtain ⟨j, rfl, rfl⟩ := dueB_pos h
    exact ⟨mem_L' rfl (by decide), Nat.one_pos⟩

theorem owed_level (c : Dev nD) (t : Fin ((Pipeline.pin (pcfgs (F := F)) adm 0).N + 1)) (g : GSem nD τ sig) (i : ℕ)
    (h : 0 < (dats m 0 c).owed t g i) : i ∈ L 8 g ∧ 0 < lv g i := by
  obtain ⟨t, ht⟩ := t
  cases t with
  | zero => exact due0_level c g i h
  | succ n => exact absurd h (Nat.lt_irrefl 0)

theorem arr_in (c : Dev nD) (w : Fin 6) : (dats m 0 c).arrAt w 0 = V1 m c (Proc.devRef .tc (Pipeline.arrRef (Pipeline.pin (pcfgs (F := F)) adm 0).spec w)) := rfl

theorem out_arr (c : Dev nD) : (dats m 0 c).arrAt (5 : Fin 6) cfg0.N = gF (inp m) c 4 := by
  refine (dats m 0 c).arrAt_eq_of_after_last (5 : Fin 6) t0_0 (by decide +kernel) _ fun j => ?_
  blk_simp
  rfl

theorem V2_out (c : Dev nD) : V2 m (outs m) c main_v17 = gF (inp m) c 4 :=
  (Function.update_self _ _ _).trans (outs_eq m 2 c)

theorem arr_out (c : Dev nD) (w : Fin 6) :
    (dats m 0 c).arrAt w (Pipeline.pin (pcfgs (F := F)) adm 0).N = V2 m (outs m) c (Proc.devRef .tc (Pipeline.arrRef (Pipeline.pin (pcfgs (F := F)) adm 0).spec w)) := by
  match w with
  | ⟨0, _⟩ => exact ((dats m 0 c).arrAt_in (0 : Fin 6) rfl _).trans (V2_of m (outs m) c main_arg0 (by decide)).symm
  | ⟨1, _⟩ => exact ((dats m 0 c).arrAt_in (1 : Fin 6) rfl _).trans (V2_of m (outs m) c main_arg1 (by decide)).symm
  | ⟨2, _⟩ => exact ((dats m 0 c).arrAt_in (2 : Fin 6) rfl _).trans (V2_of m (outs m) c main_arg2 (by decide)).symm
  | ⟨3, _⟩ => exact ((dats m 0 c).arrAt_in (3 : Fin 6) rfl _).trans (V2_of m (outs m) c main_v15 (by decide)).symm
  | ⟨4, _⟩ => exact ((dats m 0 c).arrAt_in (4 : Fin 6) rfl _).trans (V2_of m (outs m) c main_v16 (by decide)).symm
  | ⟨5, _⟩ => exact (out_arr m c).trans (V2_out m c).symm

theorem off_out (c : Dev nD) : ∀ b ∈ others \ ∅, V2 m (outs m) c b = V1 m c b := fun b hb => by
  unfold V2
  refine Function.update_of_ne (fun h => ?_) _ _
  subst h
  exact absurd hb (by decide +kernel)

theorem own_eq (c : Dev nD) : (Pipeline.ownSems0 osem c : sProp 𝕄) = bigSep Finset.univ (fun p : Bool × Fin 21 => semVal ((c : Thread nD τ), osem p) 0) := rfl

set_option backward.isDefEq.respectTransparency.types false in
/-- The kernel's region. -/
def region : RegionSeg (pcfgs (F := F)) adm (dats m) 0 defs₀ 𝒱₀ (L 8) lv 0 :=
  Pipeline.RegionSeg.ofTalk (pcfgs (F := F)) adm (dats m) 0 defs₀ 𝒱₀ (L 8) lv 0 osem (by decide +kernel : Pipeline.OwnSemFacts spec0 osem)
    ∅ others (Finset.empty_subset _) kit rfl (fun c => (body_obligation m c).loose) (fun _ => 0) due0
    (fun c => (zero_add (due0 c)).symm) (fun _ => rfl) (fun _ => rfl) (fun c w => by unfold Dat.share; split <;> rfl)
    (V1 m) (V2 m (outs m)) (off_out m) (Tk m) (Yk m) (Xk m) (Yk m) (open_k m)
    (fun c => by
      show _ ⊢ Φ₀ m c
      unfold Φ₀
      unfold StableHlo.held
      rw [bigSep_empty]
      iintro ⟨HS, HG, -, HX⟩
      isplitl [HS]
      · unfold Scr
        iapply (Entails.of_eq (scopedRest0_eq c)) $$ HS
      isplitl [HG] <;> iassumption)
    (fun c => by
      show Φ₁ m c ⊢ _
      unfold Φ₁
      unfold StableHlo.held
      rw [bigSep_empty]
      iintro ⟨HS, HG, HV, HY⟩
      isplitl [HS]
      · unfold Scr
        iapply (Entails.of_eq (scopedRest0_eq c).symm) $$ HS
      isplitl [HG]; · iexact HG
      isplitr; · iempintro
      isplitl [HV]; · iapply (Entails.of_eq (own_eq c).symm) $$ HV
      iexact HY)
    (fun c => by iintro H; imodintro; iexact H) (fun _ => 0) ⟨fun c w s => mem_L' rfl (by decide), fun c w s => le_of_eq rfl, fun c t g i h => owed_level m c t g i h⟩
    (fun _ => iprop(emp)) (fun c w => arr_in m c w) (fun c w => arr_out m c w)

/-! ## The program's launch -/

/-- The launch element: the pipeline's cells, and the protocol's. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- A resource held by the first device alone. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

def G : Dev nD → sProp 𝕄 := first (BI.own (ER (launchOf fam.S fam.Sd fam.T)))

theorem sems0 (c : Dev nD) : (unscopedSems0 c : sProp 𝕄) = semVal (bC c) 0 := by
  unfold unscopedSems0
  rw [show (Finset.univ.filter fun sm : SemLoc sig => ¬ sm.isScoped .tc) = {SemLoc.reg bS} from by decide, BI.bigSep_singleton]

/-- The barrier counters, the launch credit and the launch element make what each device brings to the kernel. -/
theorem fund : iprop((bigSep Finset.univ fun c : Dev nD => iprop(semVal (bC c) 0 ∗ Pipeline.launchCred due0 c)) ∗ bigSep Finset.univ (G (F := F)))
    ⊢ (|={Set.univ}=> bigSep Finset.univ (Tk m) : sProp 𝕄) := by
  unfold G
  rw [bigSep_first]
  have h := TalkSites.pass (Es := Set.univ) due0 (fam.funds ER (sched (inp m)) (fun g _ hg => hg) nbrs)
  rw [show (fun d : Dev nD => (fun _ => (0 : CellTallies nD τ sig ℕ)) d + due0 d) = due0 from funext fun d => zero_add _] at h
  exact h

/-- What rides past the host operations. -/
def rest (c : Dev nD) : sProp 𝕄 := iprop((∃ r, prngReg c r) ∗ Tk m c ∗ ∃ W, owes (c : Thread nD τ) (due0 c) W)

/-- What the program leaves on a device. -/
def Fin_ (c : Dev nD) : sProp 𝕄 := iprop(StableHlo.held (c : Thread nD τ) (Pipeline.ucRefs τ sig) (V2 m (outs m) c) ∗ Yk m c)

theorem region_pre (c : Dev nD) : iprop(StableHlo.held (c : Thread nD τ) (Pipeline.ucRefs τ sig) (V1 m c) ∗ rest m c) ⊢ (region m).pre c := by
  show _ ⊢ iprop(StableHlo.held (c.tc : Thread nD τ) (Pipeline.arrRefs cfg0.spec) (V1 m c) ∗ (∃ r, prngReg c r)
    ∗ (StableHlo.held (c.tc : Thread nD τ) others (V1 m c) ∗ emp) ∗ Tk m c ∗ ∃ Wd, owes (c : Thread nD τ) (0 + due0 c) Wd)
  rw [zero_add, StableHlo.held_sub_split (c : Thread nD τ) arr_sub (V1 m c)]
  unfold rest
  iintro ⟨⟨H1, H2⟩, HG, HT, HO⟩
  isplitl [H1]; · iexact H1
  isplitl [HG]; · iexact HG
  isplitl [H2]
  · isplitl [H2]; · iexact H2
    iempintro
  isplitl [HT]; · iexact HT
  iexact HO

theorem region_post (c : Dev nD) : (region m).post c ⊢ iprop(Fin_ m c ∗ ∃ W, owes (c : Thread nD τ) (0 : CellTallies nD τ sig ℕ) W) := by
  show iprop(StableHlo.held (c.tc : Thread nD τ) (Pipeline.arrRefs cfg0.spec) (V2 m (outs m) c) ∗ (∃ r, prngReg c r)
    ∗ (StableHlo.held (c.tc : Thread nD τ) others (V2 m (outs m) c) ∗ emp) ∗ Yk m c ∗ ∃ Wd, owes (c : Thread nD τ) (0 : CellTallies nD τ sig ℕ) Wd) ⊢ _
  unfold Fin_
  rw [StableHlo.held_sub_split (c : Thread nD τ) arr_sub (V2 m (outs m) c)]
  iintro ⟨H1, -, ⟨H2, -⟩, HY, HO⟩
  isplitr [HO]
  · isplitl [H1 H2]
    · isplitl [H1]; · iexact H1
      iexact H2
    iexact HY
  iexact HO

theorem init_one (c : Dev nD) : iprop(unscopedBufs c (fun b => m ((c : Thread nD τ).loc b)) ∗ unscopedSems0 c
      ∗ owes (c : Thread nD τ) (due0 c) ∅ ∗ Pipeline.launchCred due0 c ∗ prngReg c (ρ c) ∗ G c)
    ⊢ (iprop((StableHlo.held (c : Thread nD τ) (Pipeline.ucRefs τ sig) (V0 m c) ∗ (∃ r, prngReg c r) ∗ ∃ W, owes (c : Thread nD τ) (due0 c) W)
      ∗ ((semVal (bC c) 0 ∗ Pipeline.launchCred due0 c) ∗ G c)) : sProp 𝕄) := by
  rw [show unscopedBufs c (fun b => m ((c : Thread nD τ).loc b)) = StableHlo.held (c : Thread nD τ) (Pipeline.ucRefs τ sig) (V0 m c) from Pipeline.unscopedBufs_held c (V0 m c), sems0]
  iintro ⟨Hh, Hs, HO, HC, HG, HX⟩
  isplitl [Hh HO HG]
  · isplitl [Hh]; · iexact Hh
    isplitl [HG]; · iexists (ρ c); iexact HG
    iexists ∅; iexact HO
  isplitl [Hs HC]
  · isplitl [Hs]; · iexact Hs
    iexact HC
  iexact HX

theorem start_one (c : Dev nD) : iprop((StableHlo.held (c : Thread nD τ) (Pipeline.ucRefs τ sig) (V0 m c) ∗ (∃ r, prngReg c r) ∗ ∃ W, owes (c : Thread nD τ) (due0 c) W) ∗ Tk m c)
    ⊢ iprop(StableHlo.held (c : Thread nD τ) (Pipeline.ucRefs τ sig) (V0 m c) ∗ rest m c) := by
  unfold rest
  iintro ⟨⟨H1, H2, H3⟩, H4⟩
  isplitl [H1]; · iexact H1
  isplitl [H2]; · iexact H2
  isplitl [H4]; · iexact H4
  iexact H3

/-- A per-device launch state, before the protocol is funded and after. -/
theorem init_wrap {A B C D E T : Dev nD → sProp 𝕄} (hA : ∀ c, A c ⊢ iprop(B c ∗ (C c ∗ D c)))
    (hf : iprop(bigSep Finset.univ C ∗ bigSep Finset.univ D) ⊢ (|={Set.univ}=> bigSep Finset.univ E : sProp 𝕄))
    (hT : ∀ c, iprop(B c ∗ E c) ⊢ T c) {X : sProp 𝕄} :
    iprop(bigSep Finset.univ A ∗ X) ⊢ (|={Set.univ}=> bigSep Finset.univ T : sProp 𝕄) := by
  have h1 : bigSep Finset.univ A ⊢ (iprop(bigSep Finset.univ B ∗ (bigSep Finset.univ C ∗ bigSep Finset.univ D)) : sProp 𝕄) := by
    rw [← bigSep_sep' _ _ _, ← bigSep_sep' _ _ _]
    exact bigSep_mono fun c _ => hA c
  have h2 : iprop(bigSep Finset.univ B ∗ bigSep Finset.univ E) ⊢ (bigSep Finset.univ T : sProp 𝕄) := by
    rw [← bigSep_sep' _ _ _]
    exact bigSep_mono fun c _ => hT c
  iintro ⟨H, -⟩
  ihave H := h1 $$ H
  icases H with ⟨H1, H2⟩
  imod hf $$ H2 with H2
  imodintro
  iapply h2
  isplitl [H1] <;> iassumption

theorem init :
    iprop((bigSep Finset.univ fun c : Dev nD => iprop(unscopedBufs c (fun b => m ((c : Thread nD τ).loc b)) ∗ unscopedSems0 c
          ∗ owes (c : Thread nD τ) (due0 c) ∅ ∗ Pipeline.launchCred due0 c ∗ prngReg c (ρ c) ∗ G c)) ∗ levAts (L 8) lv)
      ⊢ (|={Set.univ}=> bigSep Finset.univ (fun c : Dev nD => iprop(StableHlo.held (c : Thread nD τ) (Pipeline.ucRefs τ sig) (V0 m c) ∗ rest m c)) : sProp 𝕄) :=
  init_wrap (fun c => init_one m ρ c) (fund m) (fun c => start_one m c)

theorem unscoped_eq : ∀ sm : SemLoc sig, sm.isScoped .tc = false → sm = .reg bS := by decide

theorem fin_read (c : Dev nD) (s' : Phys nD τ sig (Elt F)) :
    iprop(Fin_ m c ∗ SI s') ⊢ (|={Set.univ}=> iprop(⌜(∀ r : Ref sig .tc, Proc.devRef .tc r ∈ Pipeline.ucRefs τ sig → s'.mem.mem ((c : Thread nD τ).loc r) = V2 m (outs m) c r) ∧ s'.mem.sem (bC c) = 0⌝ ∗ SI s') : sProp 𝕄) := by
  unfold Fin_ Yk StableHlo.held
  iintro ⟨⟨Hh, HY⟩, HSI⟩
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imod (fam.barPos_read ER (sched (inp m)) c (duties_later (inp m) _ _ (le_refl _)) ∅ s') $$ [HY HSI] with ⟨%hb, HSI⟩
  · isplitl [HY] <;> iassumption
  imodintro
  isplitr
  · ipureintro
    exact ⟨fun r hr => h (Proc.devRef .tc r) hr, hb⟩
  iexact HSI

set_option backward.isDefEq.respectTransparency.types false in
/-- Every run of the program ends with the counters at zero, the arguments as they were and every device's result at the
    value of the whole exchange. -/
theorem run_all : θ_run defs (onTc (τ := τ) (main (F := F))) ⟨m, fun _ => 0, ρ⟩ (fun r =>
    (∀ c : Dev nD, ∀ b : Ref sig .tc, Proc.devRef .tc b ∈ Pipeline.ucRefs τ sig → r.2.mem ((c : Thread nD τ).loc b) = V2 m (outs m) c b)
      ∧ r.2.sem = fun _ => 0) :=
  Pipeline.θ_run_regions_kit_dev_sems (pcfgs (F := F)) adm (dats m) 0 cellOf_inj EP defs₀ 𝒱₀ (L 8) lv m ρ main
    (segs m 𝒱₀ (L 8) lv (fun _ => rest m) 0 (dats m) (region m))
    (fun c Q => by
      rewrite [main_chain c, Seg.run_eq_chain,
        show (segs m 𝒱₀ (L 8) lv (fun _ => rest m) 0 (dats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) due0 (SiteBlocks.hL 8) G u₀
    (by
      unfold u₀ G
      iintro Hu
      ihave H := (ownU_pair _ _) $$ Hu
      icases H with ⟨HP, HX⟩
      imodintro
      isplitl [HP]; · iexact HP
      rw [bigSep_first]; iexact HX)
    (T₀ := fun c => iprop(StableHlo.held (c : Thread nD τ) (Pipeline.ucRefs τ sig) (V0 m c) ∗ rest m c))
    (Tₙ := Fin_ m)
    (hch := fun c => ⟨.rfl, region_pre m c, region_post m c⟩)
    (hinit := init m ρ)
    (QY := fun c s => (∀ r : Ref sig .tc, Proc.devRef .tc r ∈ Pipeline.ucRefs τ sig → s.mem ((c : Thread nD τ).loc r) = V2 m (outs m) c r) ∧ s.sem (bC c) = 0)
    (hfin := fun c s' => fin_read m c s')
    (hQ := fun s h hs => ⟨fun c => (h c).1, sem_eq_zero hs fun c sm hsm => by
      obtain rfl := unscoped_eq sm hsm
      exact (h c).2⟩)

theorem uc (r : Ref sig .tc) (h : (Proc.devRef .tc r : DevRef τ sig) ∈ Pipeline.ucRefs τ sig := by decide) : (Proc.devRef .tc r : DevRef τ sig) ∈ Pipeline.ucRefs τ sig := h

/-- The run, read at the arguments and the result. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.mem ((c : Thread nD τ).loc main_v17) = gF (inp m) c 4)
      ∧ r.2.sem = fun _ => 0) :=
  (θ_run defs _ _).mono (fun r h => ⟨fun c =>
    ⟨⟨(h.1 c main_arg0 (uc _)).trans (V2_main_arg0 m (outs m) c), (h.1 c main_arg1 (uc _)).trans (V2_main_arg1 m (outs m) c),
      (h.1 c main_arg2 (uc _)).trans (V2_main_arg2 m (outs m) c), (h.1 c main_arg3 (uc _)).trans (V2_main_arg3 m (outs m) c),
      (h.1 c main_arg4 (uc _)).trans (V2_main_arg4 m (outs m) c)⟩, (h.1 c main_v17 (uc _)).trans (V2_out m c)⟩, h.2⟩) (run_all m ρ)

end Cert.Exch
-- ==== Proof.Same.lean ====
/-
The kernel and its ideal print are one program: the same body under the same labels.
-/
module

public import proofs.«01_k».proof.Proof.Gen.Kernel
public import proofs.«01_k».proof.Proof.Gen.KernelIdeal

@[expose] public section

noncomputable section

namespace Cert.Exch

open Idealize.ShloMosaic

variable {F : FTy → Type} [FloatOps F]

theorem body_same : @Cert.Kernel.cc0_body F _ Cert.Kernel.Gen.facts = @Cert.KernelIdeal.cc0_body F _ Cert.KernelIdeal.Gen.facts := rfl

/-- The body tables agree, label by label. -/
theorem defs0_same : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := 32) (τ := Topo.v7x)) ?_
  funext l a
  match l, a with
  | ⟨0, _⟩, (t, s) => rfl

theorem defs_same : @Cert.Kernel.defs F _ Cert.Kernel.Gen.facts = @Cert.KernelIdeal.defs F _ Cert.KernelIdeal.Gen.facts :=
  congrArg (Pipeline.defs (Cert.KernelIdeal.pcfgs (F := F))) defs0_same

theorem main_same : Cert.Kernel.main (F := F) = Cert.KernelIdeal.main (F := F) := rfl

end Cert.Exch

end
-- ==== Proof.Sum.lean ====
/-
The exchange in exact arithmetic: the reduction along the three axes leaves, in every row and on every device, the sum
of all the devices' partial results.
-/
module

public import proofs.«01_k».proof.Proof.Vals
public import Idealize.ShloMosaic.Lib.Pipeline.Value
public import Idealize.ShloMosaic.PureOps.Ideal.Laws

@[expose] public section

noncomputable section

namespace Cert.Exch

open Idealize.ShloMosaic Cert.KernelIdeal Cert.KernelIdeal.Gen
open Idealize.ShloMosaic.ValueIdx
open scoped BigOperators

/-! ## Rows read and written -/

/-- Row `i` is one of the `n` from `o`. -/
abbrev On (o n : ℕ) (i : S512x768.Idx) : Prop := o ≤ (i 0).val ∧ (i 0).val < o + n

/-- Where row `i` stands among the `n` from `o`. -/
abbrev at' {o n : ℕ} {i : S512x768.Idx} (h : On o n i) : (⟨2, ![n, 768]⟩ : Shape).Idx := ix2 ⟨(i 0).val - o, by omega⟩ (i 1)

theorem wr_on {n o : ℕ} (g : Acc Ideal) {w : (⟨2, ![n, 768]⟩ : Shape).Idx → Elt Ideal .f32} {i : S512x768.Idx} (h : On o n i) :
    wr n g o w i = w (at' h) := dif_pos h

theorem wr_off {n o : ℕ} (g : Acc Ideal) {w : (⟨2, ![n, 768]⟩ : Shape).Idx → Elt Ideal .f32} {i : S512x768.Idx} (h : ¬ On o n i) :
    wr n g o w i = g i := dif_neg h

theorem rd_on {n o : ℕ} (g : Acc Ideal) {i : S512x768.Idx} (h : On o n i) : rd n g o (at' h) = g i := by
  refine congrArg g (Eq.trans ?_ (eq_ix2 i).symm)
  refine congrArg (fun a => ix2 a (i 1)) (Fin.ext ?_)
  show (o + ((i 0).val - o)) % 512 = (i 0).val
  have := idx2_lt0 i
  rw [Nat.add_sub_cancel' h.1, Nat.mod_eq_of_lt this]

/-! ## The operations on rows -/

theorem pay20_id (w : Vec Ideal S64x768 .f32) : k0_pay20 w = w := by
  unfold k0_pay20; simp only [Idealize.ShloMosaic.shapeCast_self]; rfl
theorem pay44_id (w : Vec Ideal S64x768 .f32) : k0_pay44 w = w := pay20_id w
theorem pay71_id (w : Vec Ideal S64x768 .f32) : k0_pay71 w = w := pay20_id w
theorem pay62_id (w : Vec Ideal S16x768 .f32) : k0_pay62 w = w := by
  unfold k0_pay62; simp only [Idealize.ShloMosaic.shapeCast_self]; rfl
theorem pay67_id (w : Vec Ideal S16x768 .f32) : k0_pay67 w = w := pay62_id w
theorem pay43_add (w : Vec Ideal S64x768 .f32) (u : Vec Ideal S64x768 .bf16) (j) : k0_pay43 w u j = w j + u j := by
  unfold k0_pay43; simp only [Idealize.ShloMosaic.shapeCast_self]; rfl
theorem pay59_add (w : Vec Ideal S64x768 .f32) (u : Vec Ideal S64x768 .bf16) (j) : k0_pay59 w u j = w j + u j := pay43_add w u j
theorem pay66_add (w : Vec Ideal S16x768 .f32) (u v t : Vec Ideal S16x768 .bf16) (j) : k0_pay66 w u v t j = w j + u j + v j + t j := by
  unfold k0_pay66; simp only [Idealize.ShloMosaic.shapeCast_self]; rfl

/-! ## Places of partners -/

theorem lo_x : ∀ c, lo (xr c 1) = hi c ∧ hi (xr c 1) = lo c ∧ zc (xr c 1) = zc c ∧ yc (xr c 1) = yc c := by decide +kernel
theorem lo_z : ∀ (c : Dev nD) (d : Fin 4), lo (xr c (Fin.ofNat 32 (8 * d.val))) = lo c ∧ hi (xr c (Fin.ofNat 32 (8 * d.val))) = hi c
    ∧ zc (xr c (Fin.ofNat 32 (8 * d.val))) = zc c ^^^ d.val ∧ zc c ^^^ d.val ^^^ d.val = zc c ∧ yc (xr c (Fin.ofNat 32 (8 * d.val))) = yc c := by decide +kernel
theorem lo_y : ∀ (c : Dev nD) (d : Fin 3), lo (xr c (ym (d.val + 1))) = lo c
    ∧ zc (xr c (ym (d.val + 1))) = zc c ∧ yc (xr c (ym (d.val + 1))) = yc c ^^^ (d.val + 1) ∧ yc c ^^^ (d.val + 1) ^^^ (d.val + 1) = yc c := by decide +kernel
theorem lo_hi : ∀ c, (lo c = 0 ∧ hi c = 256) ∨ (lo c = 256 ∧ hi c = 0) := by decide +kernel
theorem quarter : ∀ (z : Fin 4) (q : Fin 4), ∃ d : Fin 4, z.val ^^^ d.val = q.val := by decide

/-- Every device is one step along each axis away. -/
def hop (c : Dev nD) (s : Fin 4 × Fin 4 × Fin 2) : Dev nD :=
  xr (xr (xr c (![0, 3, 4, 7] s.1)) (![0, 8, 16, 24] s.2.1)) (![0, 1] s.2.2)

theorem hop_inj : ∀ c, Function.Injective (hop c) := by
  have h : ∀ c s t, hop c s = hop c t → s = t := by decide +kernel
  exact fun c s t => h c s t

theorem hop_bij (c : Dev nD) : Function.Bijective (hop c) :=
  (Fintype.bijective_iff_injective_and_card _).2 ⟨hop_inj c, rfl⟩

/-! ## The sums, axis by axis -/

variable (I : Dev nD → Inp Ideal)

/-- After the first axis, the second from the last, and the last. -/
def uA (c : Dev nD) (i : S512x768.Idx) : EReal := gP I c i + gP I (xr c 1) i
@[inherit_doc uA] def uB (c : Dev nD) (i : S512x768.Idx) : EReal := uA I c i + uA I (xr c 8) i + uA I (xr c 16) i + uA I (xr c 24) i
@[inherit_doc uA] def uC (c : Dev nD) (i : S512x768.Idx) : EReal := uB I c i + uB I (xr c 3) i + uB I (xr c 4) i + uB I (xr c 7) i

/-- The sum of all the devices' partial results. -/
def tot (i : S512x768.Idx) : EReal := ∑ d : Dev nD, gP I d i

theorem xr_zero : ∀ c, xr c 0 = c := by decide +kernel

theorem uC_eq (c : Dev nD) (i : S512x768.Idx) : uC I c i = tot I i := by
  unfold tot
  rw [← (hop_bij c).sum_comp]
  simp only [Fintype.sum_prod_type, Fin.sum_univ_four, Fin.sum_univ_two]
  unfold uC uB uA hop
  simp only [Matrix.cons_val, xr_zero]

theorem gA_on (c : Dev nD) (i : S512x768.Idx) : ∀ j : ℕ, j ≤ 4 →
    gA I c j i = if On (lo c) (j * 64) i then uA I c i else gP I c i
  | 0, _ => (if_neg (by omega)).symm
  | j + 1, hj => by
    have hl := lo_hi c
    unfold gA
    by_cases h : On (lo c + j * 64) 64 i
    · rw [wr_on _ h, pay43_add, rd_on _ h, gA_on c i j (by omega), if_neg (by omega), if_pos (by omega)]
      unfold sX
      rw [pay20_id, (lo_x c).2.1, rd_on _ h]
      rfl
    · rw [wr_off _ h, gA_on c i j (by omega)]
      exact if_congr (by omega) rfl rfl

/-- What comes along the third axis, at the rows that the taker keeps. -/
theorem sZ_on (c : Dev nD) (d : Fin 4) {i : S512x768.Idx} (h : On (lo c + zc c * 64) 64 i) :
    sZ I (xr c (Fin.ofNat 32 (8 * d.val))) d.val (at' h) = uA I (xr c (Fin.ofNat 32 (8 * d.val))) i := by
  obtain ⟨e1, -, e3, e4, -⟩ := lo_z c d
  have := zc_lt c
  unfold sZ
  rw [pay44_id, e1, e3, e4, rd_on _ h, gA_on I _ i _ (by omega), if_pos (by rw [e1]; omega)]

theorem gB_on (c : Dev nD) {i : S512x768.Idx} (h : On (lo c + zc c * 64) 64 i) : gB I c 3 i = uB I c i := by
  have := zc_lt c
  show wr 64 _ _ _ i = _
  rw [wr_on _ h, pay59_add, rd_on _ h]
  show wr 64 _ _ _ i + _ = _
  rw [wr_on _ h, pay59_add, rd_on _ h]
  show wr 64 _ _ _ i + _ + _ = _
  rw [wr_on _ h, pay59_add, rd_on _ h]
  show gA I c 4 i + _ + _ + _ = _
  rw [gA_on I c i 4 (by omega), if_pos (by omega)]
  exact congr (congrArg HAdd.hAdd (congr (congrArg HAdd.hAdd (congrArg (uA I c i + ·) (sZ_on I c 1 h))) (sZ_on I c 2 h))) (sZ_on I c 3 h)

theorem sY_on (c : Dev nD) (d : Fin 3) {i : S512x768.Idx} (h : On (lo c + zc c * 64 + yc c * 16) 16 i) :
    sY I (xr c (ym (d.val + 1))) (d.val + 1) (at' h) = uB I (xr c (ym (d.val + 1))) i := by
  obtain ⟨e1, e2, e3, e4⟩ := lo_y c d
  have := yc_lt c
  unfold sY
  rw [pay62_id, e1, e2, e3, e4, rd_on _ h, gB_on I _ (by rw [e1, e2]; exact ⟨by omega, by omega⟩)]

theorem gC_on (c : Dev nD) {i : S512x768.Idx} (h : On (lo c + zc c * 64 + yc c * 16) 16 i) : gC I c i = tot I i := by
  have := yc_lt c
  rw [← uC_eq I c]
  unfold gC
  rw [wr_on _ h, pay66_add, rd_on _ h, gB_on I c ⟨by omega, by omega⟩]
  exact congr (congrArg HAdd.hAdd (congr (congrArg HAdd.hAdd (congrArg (uB I c i + ·) (sY_on I c 0 h))) (sY_on I c 1 h))) (sY_on I c 2 h)

/-! ## Handing the sums back -/

theorem sU_on (c : Dev nD) {i : S512x768.Idx} (h : On (lo c + zc c * 64 + yc c * 16) 16 i) : sU I c (at' h) = tot I i := by
  unfold sU
  rw [pay67_id, rd_on _ h, gC_on I c h]

theorem gD_on (c : Dev nD) (i : S512x768.Idx) : ∀ d : ℕ, d ≤ 3 → ∀ e : ℕ, e ≤ d → On (lo c + zc c * 64 + (yc c ^^^ e) * 16) 16 i →
    gD I c d i = tot I i
  | 0, _, e, he, h => by
    obtain rfl : e = 0 := by omega
    rw [Nat.xor_zero] at h
    exact gC_on I c h
  | d + 1, hd, e, he, h => by
    unfold gD
    by_cases hq : On (lo c + zc c * 64 + (yc c ^^^ (d + 1)) * 16) 16 i
    · obtain ⟨e1, e2, e3, -⟩ := lo_y c ⟨d, by omega⟩
      rw [wr_on _ hq]
      have hq' : On (lo (xr c (ym (d + 1))) + zc (xr c (ym (d + 1))) * 64 + yc (xr c (ym (d + 1))) * 16) 16 i := by
        rw [e1, e2, e3]; exact hq
      refine Eq.trans ?_ (sU_on I _ hq')
      show sU I _ _ = _
      congr 1
      unfold at'
      simp only [e1, e2, e3]
    · rw [wr_off _ hq]
      refine gD_on c i d (by omega) e ?_ h
      rcases Nat.lt_or_ge e (d + 1) with h' | h'
      · omega
      · obtain rfl : e = d + 1 := by omega
        exact absurd h hq

theorem sV_on (c : Dev nD) {i : S512x768.Idx} (h : On (lo c + zc c * 64) 64 i) : sV I c (at' h) = tot I i := by
  have := yc_lt c
  obtain ⟨e, he⟩ := quarter ⟨yc c, yc_lt c⟩ ⟨((i 0).val - (lo c + zc c * 64)) / 16, by omega⟩
  unfold sV
  rw [pay71_id, rd_on _ h]
  refine gD_on I c i 3 le_rfl e.val (by omega) ?_
  simp only [] at he
  rw [he]
  exact ⟨by omega, by omega⟩

theorem gE_on (c : Dev nD) (i : S512x768.Idx) : ∀ d : ℕ, d ≤ 3 → ∀ e : ℕ, e ≤ d → On (lo c + (zc c ^^^ e) * 64) 64 i → gE I c d i = tot I i
  | 0, _, e, he, h => by
    have := yc_lt c
    obtain rfl : e = 0 := by omega
    rw [Nat.xor_zero] at h
    obtain ⟨e, he⟩ := quarter ⟨yc c, yc_lt c⟩ ⟨((i 0).val - (lo c + zc c * 64)) / 16, by omega⟩
    refine gD_on I c i 3 le_rfl e.val (by omega) ?_
    simp only [] at he
    rw [he]
    exact ⟨by omega, by omega⟩
  | d + 1, hd, e, he, h => by
    unfold gE
    by_cases hq : On (lo c + (zc c ^^^ (d + 1)) * 64) 64 i
    · obtain ⟨e1, -, e3, -⟩ := lo_z c ⟨d + 1, by omega⟩
      simp only [] at e1 e3
      rw [wr_on _ hq]
      have hq' : On (lo (xr c (Fin.ofNat 32 (8 * (d + 1)))) + zc (xr c (Fin.ofNat 32 (8 * (d + 1)))) * 64) 64 i := by
        rw [e1, e3]; exact hq
      refine Eq.trans ?_ (sV_on I _ hq')
      show sV I _ _ = _
      congr 1
      unfold at'
      simp only [e1, e3]
    · rw [wr_off _ hq]
      refine gE_on c i d (by omega) e ?_ h
      rcases Nat.lt_or_ge e (d + 1) with h' | h'
      · omega
      · obtain rfl : e = d + 1 := by omega
        exact absurd h hq

theorem rX_eq (c : Dev nD) (d : ℕ) : rX I c d = sV I (xr (xr c 1) (Fin.ofNat 32 (8 * d))) := by
  cases d with
  | zero => exact congrArg (sV I) (xr_zero _).symm
  | succ d => rfl

theorem gF_on (c : Dev nD) (i : S512x768.Idx) : ∀ d : ℕ, d ≤ 4 → (On (lo c) 256 i ∨ ∃ e : ℕ, e < d ∧ On (hi c + (zc c ^^^ e) * 64) 64 i) →
    gF I c d i = tot I i
  | 0, _, h => by
    have := zc_lt c
    rcases h with h | ⟨e, he, -⟩
    · obtain ⟨e, he⟩ := quarter ⟨zc c, zc_lt c⟩ ⟨((i 0).val - lo c) / 64, by omega⟩
      refine gE_on I c i 3 le_rfl e.val (by omega) ?_
      simp only [] at he
      rw [he]
      exact ⟨by omega, by omega⟩
    · omega
  | d + 1, hd, h => by
    unfold gF
    by_cases hq : On (hi c + (zc c ^^^ d) * 64) 64 i
    · obtain ⟨e1, -, e3, -⟩ := lo_z (xr c 1) ⟨d, by omega⟩
      simp only [(lo_x c).1, (lo_x c).2.2.1] at e1 e3
      rw [wr_on _ hq, rX_eq]
      have hq' : On (lo (xr (xr c 1) (Fin.ofNat 32 (8 * d))) + zc (xr (xr c 1) (Fin.ofNat 32 (8 * d))) * 64) 64 i := by
        rw [e1, e3]; exact hq
      refine Eq.trans ?_ (sV_on I _ hq')
      show sV I _ _ = _
      congr 1
      unfold at'
      simp only [e1, e3]
    · rw [wr_off _ hq]
      refine gF_on c i d (by omega) ?_
      rcases h with h | ⟨e, he, h⟩
      · exact .inl h
      · rcases Nat.lt_or_ge e d with h' | h'
        · exact .inr ⟨e, h', h⟩
        · obtain rfl : e = d := by omega
          exact absurd h hq

/-- At the end every device holds the sum of all the partial results. -/
theorem gF_tot (c : Dev nD) (i : S512x768.Idx) : gF I c 4 i = ∑ d : Dev nD, gP I d i := by
  refine gF_on I c i 4 le_rfl ?_
  have hi' : (i 0).val < 512 := (i 0).isLt
  have hl := lo_hi c
  by_cases h : On (lo c) 256 i
  · exact .inl h
  · obtain ⟨e, he⟩ := quarter ⟨zc c, zc_lt c⟩ ⟨((i 0).val - hi c) / 64, by omega⟩
    refine .inr ⟨e.val, e.isLt, ?_⟩
    simp only [] at he
    rw [he]
    exact ⟨by omega, by omega⟩

end Cert.Exch

end
-- ==== Proof.Heads.lean ====
/-
What a device computes, at an index and in exact arithmetic: its heads, and its partial result of one batch.
-/
module

public import proofs.«01_k».proof.Proof.Vals
public import Idealize.ShloMosaic.Lib.Pointwise
public import Idealize.ShloMosaic.Lib.Pointwise.IndexBridge
public import Idealize.ShloMosaic.Lib.Pipeline.ValueKit

@[expose] public section

set_option maxRecDepth 16384

noncomputable section

namespace Cert.Exch

open Idealize.ShloMosaic Cert.KernelIdeal Cert.KernelIdeal.Gen

variable {F : FTy → Type} [FloatOps F]

/-! ## One head, by the kernel's operations -/

/-- The scaled scores of one head. -/
def scoreV (q : FVec F S256x64 .bf16) (k : Vec F S1x1x512x64 .bf16) : FVec F S256x512 .f32 :=
  mulf (matmul dot_S256x64_S512x64_S256x512_1_1_0_0_n_n none q (shapeCast S512x64 k shapeCasts_S1x1x512x64_S512x64)
    (constant S256x512 .f32 0x00000000#32)) (broadcast S256x512 (Scalar.ofBits .f32 0x3E000000#32))

/-- The weights of one head, each score less its row's greatest. -/
def expV (s : FVec F S256x512 .f32) : FVec F S256x512 .f32 :=
  exp (subf s (broadcastTo S256x512 (shapeCast S256x1
    (multiReduction .maximumf [1] S256 s 0xFF800000#32 reduces_S256x512_S256 (.inl rfl) rfl) shapeCasts_S256_S256x1) broadcasts_S256x1_S256x512))

/-- One head. -/
def headV (q : FVec F S256x64 .bf16) (k v : Vec F S1x1x512x64 .bf16) : FVec F S256x64 .f32 :=
  divf (matmul dot_S256x512_S512x64_S256x64_1_0_0_1_n_n none (truncf .bf16 (expV (scoreV q k)) bitsLt_bf16_f32)
      (shapeCast S512x64 v shapeCasts_S1x1x512x64_S512x64) (constant S256x64 .f32 0x00000000#32))
    (broadcastTo S256x64 (shapeCast S256x1
      (multiReduction .add [1] S256 (expV (scoreV q k)) 0x00000000#32 reduces_S256x512_S256 (.inl rfl) rfl) shapeCasts_S256_S256x1) broadcasts_S256x1_S256x64)

/-- The partial result of one batch, head by head. -/
theorem blkA_heads (wq : FVec F S768x512 .bf16) (wo : FVec F S512x768 .bf16) (x : Vec F S1x256x768 .bf16) (k0 v0 k1 v1 : Vec F S1x1x512x64 .bf16) :
    blkA wq wo x k0 v0 k1 v1 = matmul dot_S256x512_S512x768_S256x768_1_0_0_1_n_n none
      (truncf .bf16 (concatenate S256x512 1
        [⟨S256x64, headV (truncf .bf16 (extractStridedSlice S256x64 ![0, 0] (k0_pay4 wq x) slices_S256x512_o0_0_S256x64) bitsLt_bf16_f32) k0 v0⟩,
         ⟨S256x64, headV (truncf .bf16 (extractStridedSlice S256x64 ![0, 64] (k0_pay4 wq x) slices_S256x512_o0_64_S256x64) bitsLt_bf16_f32) k0 v0⟩,
         ⟨S256x64, headV (truncf .bf16 (extractStridedSlice S256x64 ![0, 128] (k0_pay4 wq x) slices_S256x512_o0_128_S256x64) bitsLt_bf16_f32) k0 v0⟩,
         ⟨S256x64, headV (truncf .bf16 (extractStridedSlice S256x64 ![0, 192] (k0_pay4 wq x) slices_S256x512_o0_192_S256x64) bitsLt_bf16_f32) k0 v0⟩,
         ⟨S256x64, headV (truncf .bf16 (extractStridedSlice S256x64 ![0, 256] (k0_pay4 wq x) slices_S256x512_o0_256_S256x64) bitsLt_bf16_f32) k1 v1⟩,
         ⟨S256x64, headV (truncf .bf16 (extractStridedSlice S256x64 ![0, 320] (k0_pay4 wq x) slices_S256x512_o0_320_S256x64) bitsLt_bf16_f32) k1 v1⟩,
         ⟨S256x64, headV (truncf .bf16 (extractStridedSlice S256x64 ![0, 384] (k0_pay4 wq x) slices_S256x512_o0_384_S256x64) bitsLt_bf16_f32) k1 v1⟩,
         ⟨S256x64, headV (truncf .bf16 (extractStridedSlice S256x64 ![0, 448] (k0_pay4 wq x) slices_S256x512_o0_448_S256x64) bitsLt_bf16_f32) k1 v1⟩]
        concatenates_S256x64_S256x64_S256x64_S256x64_S256x64_S256x64_S256x64_S256x64_S256x512_d1) bitsLt_bf16_f32) wo
      (constant S256x768 .f32 0x00000000#32) := rfl

/-! ## The same, at an index -/

/-- One head of attention at one query: its row `q`, the keys `k`, the values `v`, read at column `e`. -/
def scoreS (q : Fin 64 → EReal) (k : Fin 512 → Fin 64 → EReal) (j : Fin 512) : EReal :=
  (∑ x, q x * k j x) * Ideal.ofBits FTy.f32 1040187392#32
@[inherit_doc scoreS] def expS (q : Fin 64 → EReal) (k : Fin 512 → Fin 64 → EReal) (j : Fin 512) : EReal :=
  Ideal.exp (scoreS q k j - Finset.fold max (Ideal.ofBits FTy.f32 4286578688#32) (scoreS q k) Finset.univ)
@[inherit_doc scoreS] def headS (q : Fin 64 → EReal) (k v : Fin 512 → Fin 64 → EReal) (e : Fin 64) : EReal :=
  Ideal.div (∑ j, expS q k j * v j e) (∑ j, expS q k j)

theorem scoreV_apply (q : FVec Ideal S256x64 .bf16) (k : Vec Ideal S1x1x512x64 .bf16) (r : Fin 256) (j : Fin 512) :
    scoreV q k (ix2 r j) = scoreS (fun x => q (ix2 r x)) (fun j x => k (ix4 0 0 j x)) j := by
  pointwise [scoreV, scoreS]

theorem expV_apply (q : FVec Ideal S256x64 .bf16) (k : Vec Ideal S1x1x512x64 .bf16) (r : Fin 256) (j : Fin 512) :
    expV (scoreV q k) (ix2 r j) = expS (fun x => q (ix2 r x)) (fun j x => k (ix4 0 0 j x)) j := by
  pointwise [expV]
  simp only [scoreV_apply]
  rfl

theorem headV_apply (q : FVec Ideal S256x64 .bf16) (k v : Vec Ideal S1x1x512x64 .bf16) (r : Fin 256) (e : Fin 64) :
    headV q k v (ix2 r e) = headS (fun x => q (ix2 r x)) (fun j x => k (ix4 0 0 j x)) (fun j x => v (ix4 0 0 j x)) e := by
  pointwise [headV]
  simp only [expV_apply]
  rfl

/-- Eight heads side by side. -/
theorem cat_apply (f : Fin 8 → FVec Ideal S256x64 .f32) (r : Fin 256) (h : Fin 8) (e : Fin 64) :
    concatenate S256x512 1 [⟨S256x64, f 0⟩, ⟨S256x64, f 1⟩, ⟨S256x64, f 2⟩, ⟨S256x64, f 3⟩, ⟨S256x64, f 4⟩, ⟨S256x64, f 5⟩,
        ⟨S256x64, f 6⟩, ⟨S256x64, f 7⟩]
      concatenates_S256x64_S256x64_S256x64_S256x64_S256x64_S256x64_S256x64_S256x64_S256x512_d1 (ix2 r ⟨h.val * 64 + e.val, by omega⟩)
      = f h (ix2 r e) := by
  pointwise
  have := e.isLt
  fin_vals h with hk
  all_goals
    simp only [hk]
    repeat first | rw [dif_pos (by omega)] | rw [dif_neg (by omega)]
    refine congr (congrArg f (Fin.ext hk.symm)) (congrArg (ix2 r) (Fin.ext ?_))
    simp only []
    omega

/-- The queries of head `h` at row `r`. -/
theorem q_apply (wq : FVec Ideal S768x512 .bf16) (x : Vec Ideal S1x256x768 .bf16) (o : ℕ) (hs : S256x512.Slices ![0, o] S256x64) (ho : o + 64 ≤ 512)
    (r : Fin 256) (j : Fin 64) :
    (truncf .bf16 (extractStridedSlice S256x64 ![0, o] (k0_pay4 wq x) hs) bitsLt_bf16_f32 : FVec Ideal S256x64 .bf16) (ix2 r j)
      = ∑ a, x (ix3 0 r a) * wq (ix2 a ⟨o + j.val, by omega⟩) := by
  pointwise [k0_pay4]

theorem slices_head : ∀ h : Fin 8, S256x512.Slices ![0, h.val * 64] S256x64 := by decide

/-- The partial result of one batch at an index: the heads, each times its rows of the output projection. -/
theorem blkA_apply (wq : FVec Ideal S768x512 .bf16) (wo : FVec Ideal S512x768 .bf16) (x : Vec Ideal S1x256x768 .bf16)
    (k0 v0 k1 v1 : Vec Ideal S1x1x512x64 .bf16) (r : Fin 256) (n : Fin 768) :
    blkA wq wo x k0 v0 k1 v1 (ix2 r n) = ∑ h : Fin 8, ∑ e : Fin 64,
      headS (fun d => ∑ a, x (ix3 0 r a) * wq (ix2 a ⟨h.val * 64 + d.val, by omega⟩))
        (fun j d => (if h.val < 4 then k0 else k1) (ix4 0 0 j d)) (fun j d => (if h.val < 4 then v0 else v1) (ix4 0 0 j d)) e
      * wo (ix2 ⟨h.val * 64 + e.val, by omega⟩ n) := by
  rw [blkA_heads]
  have hc := cat_apply (fun h : Fin 8 => headV (truncf .bf16 (extractStridedSlice S256x64 ![0, h.val * 64] (k0_pay4 wq x) (slices_head h)) bitsLt_bf16_f32)
    (if h.val < 4 then k0 else k1) (if h.val < 4 then v0 else v1)) r
  generalize hC : concatenate S256x512 1 _ _ = C
  have hc' : ∀ (h : Fin 8) (e : Fin 64), C (ix2 r ⟨h.val * 64 + e.val, by omega⟩) = _ := fun h e => (congrFun hC.symm _).trans (hc h e)
  refine Eq.trans (b := ∑ t : Fin 512, (C (ix2 r t) * wo (ix2 t n) : EReal)) (by pointwise) ?_
  refine (Fin.sum_mul_add_fin (M := EReal) (L := 512) 8 64 (fun t : Fin 512 => C (ix2 r t) * wo (ix2 t n))).symm.trans ?_
  refine Finset.sum_congr rfl fun h _ => ?_
  refine Finset.sum_congr rfl fun e _ => ?_
  rw [hc' h e, headV_apply]
  simp only [q_apply _ _ _ _ (by omega : h.val * 64 + 64 ≤ 512)]

end Cert.Exch

end
-- ==== Proof.Refv.lean ====
/-
The reference's result at an index.
-/
module

public import proofs.«01_k».proof.Proof.Heads
public import proofs.«01_k».proof.Proof.Gen.ReferenceIdeal.Run
public import Idealize.ShloMosaic.Lib.Tactic.CleanTypes

@[expose] public section

noncomputable section

namespace Cert.Exch

open Idealize.ShloMosaic Cert.ReferenceIdeal Cert.ReferenceIdeal.Gen

/-- Column `T % 64` of head `T / 64` at row `r`, of the whole arrays. -/
def attn (X : S2x256x768.Idx → EReal) (Q : S768x16384.Idx → EReal) (K V : S2x512x64x64.Idx → EReal) (r : Fin 512) (T : Fin 16384) : EReal :=
  headS (fun d => ∑ a : Fin 768, X (ix3 ⟨r.val / 256, by omega⟩ ⟨r.val % 256, by omega⟩ a) * Q (ix2 a ⟨T.val / 64 * 64 + d.val, by omega⟩))
    (fun j d => K (ix4 ⟨r.val / 256, by omega⟩ j ⟨T.val / 64 / 4, by omega⟩ d))
    (fun j d => V (ix4 ⟨r.val / 256, by omega⟩ j ⟨T.val / 64 / 4, by omega⟩ d)) ⟨T.val % 64, by omega⟩

theorem ref_apply (m : (ℓ : Loc nD τ sig) → Buf (Elt Ideal) ℓ) (c : Dev nD) (r : Fin 512) (n : Fin 768) :
    Cert.ReferenceIdeal.Value.res_main_v28 m c (ix2 r n) = ∑ T : Fin 16384,
      attn (m ((c.tc : Thread nD τ).loc main_arg0)) (m ((c.tc : Thread nD τ).loc main_arg1)) (m ((c.tc : Thread nD τ).loc main_arg3))
        (m ((c.tc : Thread nD τ).loc main_arg4)) r T * (m ((c.tc : Thread nD τ).loc main_arg2) (ix2 T n) : EReal) := by
  unfold Cert.ReferenceIdeal.Value.res_main_v28
  clean_types
  pointwise
  refine Finset.sum_congr rfl fun T _ => ?_
  unfold attn headS expS scoreS
  refine congrArg (fun u : EReal => u * _) (congrArg (fun u : EReal => Ideal.div u _) ?_)
  exact Finset.sum_congr rfl fun j _ => mul_comm _ _

end Cert.Exch

end
-- ==== Proof.Operands.lean ====
/-
The operands that the kernel is entered with, at an index: the activations and the projections as they are, the keys
and values of the device's two heads.
-/
module

public import proofs.«01_k».proof.Proof.Launch
public import Idealize.ShloMosaic.Lib.Pointwise
public import Idealize.ShloMosaic.Lib.Pointwise.IndexBridge
public import Idealize.ShloMosaic.Lib.StableHlo.ReadAt

@[expose] public section

noncomputable section

namespace Cert.Exch

open Idealize.ShloMosaic Cert.KernelIdeal Cert.KernelIdeal.Gen

variable (m : (ℓ : Loc nD τ sig) → Buf (Elt Ideal) ℓ)

/-- The first of the device's two heads of keys and values, as the program computes it. -/
theorem start_k (c : Dev nD) (V : Valuation τ sig (Elt Ideal)) (i : S_.Idx) :
    BitVec.toInt (StableHlo.upto (hostOps0 c) V 16 (Proc.devRef .tc main_v8) i : BitVec 32) = ((c.val * 2 : ℕ) : ℤ) := by
  after_reads_simp
  obtain rfl : i = Shape.Idx.first h_S_ := funext fun a => a.elim0
  revert c
  decide +kernel
theorem start_v (c : Dev nD) (V : Valuation τ sig (Elt Ideal)) (i : S_.Idx) :
    BitVec.toInt (StableHlo.upto (hostOps0 c) V 27 (Proc.devRef .tc main_v13) i : BitVec 32) = ((c.val * 2 : ℕ) : ℤ) := by
  after_reads_simp
  obtain rfl : i = Shape.Idx.first h_S_ := funext fun a => a.elim0
  revert c
  decide +kernel

/-- The program's other starts are zero. -/
theorem start_k0 (c : Dev nD) (V : Valuation τ sig (Elt Ideal)) (i : S_.Idx) :
    BitVec.toInt (StableHlo.upto (hostOps0 c) V 16 (Proc.devRef .tc main_c_4) i : BitVec 32) = ((0 : ℕ) : ℤ)
    ∧ BitVec.toInt (StableHlo.upto (hostOps0 c) V 16 (Proc.devRef .tc main_c_5) i : BitVec 32) = ((0 : ℕ) : ℤ)
    ∧ BitVec.toInt (StableHlo.upto (hostOps0 c) V 16 (Proc.devRef .tc main_c_6) i : BitVec 32) = ((0 : ℕ) : ℤ) := by
  refine ⟨?_, ?_, ?_⟩ <;> after_reads_simp <;> rfl
theorem start_v0 (c : Dev nD) (V : Valuation τ sig (Elt Ideal)) (i : S_.Idx) :
    BitVec.toInt (StableHlo.upto (hostOps0 c) V 27 (Proc.devRef .tc main_c_10) i : BitVec 32) = ((0 : ℕ) : ℤ)
    ∧ BitVec.toInt (StableHlo.upto (hostOps0 c) V 27 (Proc.devRef .tc main_c_11) i : BitVec 32) = ((0 : ℕ) : ℤ)
    ∧ BitVec.toInt (StableHlo.upto (hostOps0 c) V 27 (Proc.devRef .tc main_c_12) i : BitVec 32) = ((0 : ℕ) : ℤ) := by
  refine ⟨?_, ?_, ?_⟩ <;> after_reads_simp <;> rfl

/-- Two of the device's heads, read where they start. -/
theorem heads_at (g : S2x512x64x64.Idx → EReal) (st : Fin 4 → ℤ) (c : Dev nD) (hf : S2x512x64x64.Slices (fun _ => 0) S2x512x2x64)
    (h0 : st 0 = ((0 : ℕ) : ℤ)) (h1 : st 1 = ((0 : ℕ) : ℤ)) (h2 : st 2 = ((c.val * 2 : ℕ) : ℤ)) (h3 : st 3 = ((0 : ℕ) : ℤ))
    (b : Fin 2) (h : Fin 2) (j : Fin 512) (d : Fin 64) (hc : c.val < 32) :
    Host.dynamicSlice S2x512x2x64 g st hf (ix4 b j h d) = g (ix4 b j ⟨c.val * 2 + h.val, by omega⟩ d) := by
  pointwise
  simp only [Host.clampedStart_of_le (s := S2x512x64x64) (t := S2x512x2x64) rfl st 0 0 h0 (by decide), Host.clampedStart_of_le (s := S2x512x64x64) (t := S2x512x2x64) rfl st 1 0 h1 (by decide),
    Host.clampedStart_of_le (s := S2x512x64x64) (t := S2x512x2x64) rfl st 2 (c.val * 2) h2 (by show c.val * 2 + 2 ≤ 64; omega), Host.clampedStart_of_le (s := S2x512x64x64) (t := S2x512x2x64) rfl st 3 0 h3 (by decide), Nat.zero_add]

theorem swap_at (g : S2x512x2x64.Idx → EReal) (b : Fin 2) (h : Fin 2) (j : Fin 512) (d : Fin 64) :
    transpose S2x2x512x64 [0, 2, 1, 3] g transposes_S2x512x2x64_S2x2x512x64_0_2_1_3 (ix4 b h j d) = g (ix4 b j h d) := by
  pointwise

theorem k_apply (c : Dev nD) (b : Fin 2) (h : Fin 2) (j : Fin 512) (d : Fin 64) (hc : c.val < 32) :
    (inp m c).k (ix4 b h j d) = m ((c.tc : Thread nD τ).loc main_arg3) (ix4 b j ⟨c.val * 2 + h.val, by omega⟩ d) := by
  unfold inp V1
  simp only []
  after_reads_simp
  refine (swap_at _ b h j d).trans ?_
  have h0 := start_k0 c (V0 m c) (Shape.Idx.first h_S_)
  have h2 := start_k c (V0 m c) (Shape.Idx.first h_S_)
  generalize StableHlo.upto (hostOps0 c) (V0 m c) 16 = W at h0 h2 ⊢
  exact heads_at _ _ c _ h0.1 h0.2.1 h2 h0.2.2 b h j d hc

theorem v_apply (c : Dev nD) (b : Fin 2) (h : Fin 2) (j : Fin 512) (d : Fin 64) (hc : c.val < 32) :
    (inp m c).v (ix4 b h j d) = m ((c.tc : Thread nD τ).loc main_arg4) (ix4 b j ⟨c.val * 2 + h.val, by omega⟩ d) := by
  unfold inp V1
  simp only []
  after_reads_simp
  refine (swap_at _ b h j d).trans ?_
  have h0 := start_v0 c (V0 m c) (Shape.Idx.first h_S_)
  have h2 := start_v c (V0 m c) (Shape.Idx.first h_S_)
  generalize StableHlo.upto (hostOps0 c) (V0 m c) 27 = W at h0 h2 ⊢
  exact heads_at _ _ c _ h0.1 h0.2.1 h2 h0.2.2 b h j d hc

end Cert.Exch

end
-- ==== Proof.Value.lean ====
/-
The kernel's result is the reference's: the devices' partial results are the heads' shares of the output projection,
and the sum over the devices is the sum over all the columns.
-/
module

public import proofs.«01_k».proof.Proof.Sum
public import proofs.«01_k».proof.Proof.Refv
public import proofs.«01_k».proof.Proof.Operands
public import Idealize.ShloMosaic.Lib.Layout

@[expose] public section

noncomputable section

namespace Cert.Exch

open Idealize.ShloMosaic Cert.KernelIdeal Cert.KernelIdeal.Gen

theorem pay2_id (w : S768x512.Idx → EReal) : k0_pay2 (F := Ideal) w = w := shapeCast_self _ _
theorem pay3_id (w : S512x768.Idx → EReal) : k0_pay3 (F := Ideal) w = w := shapeCast_self _ _

/-- The two heads of a batch, by the number of the query head that reads them. -/
theorem kb_at (k : S2x2x512x64.Idx → EReal) (b : ℕ) (hb : b < 2) (h : Fin 8) (j : Fin 512) (d : Fin 64) :
    (if h.val < 4 then kb (F := Ideal) k b 0 else kb (F := Ideal) k b 1) (ix4 0 0 j d) = k (ix4 ⟨b, hb⟩ ⟨h.val / 4, by omega⟩ j d) := by
  rw [ix4_eq_valueIdx]
  split <;> unfold kb
  · refine congrArg k ?_
    rw [ix4_eq_valueIdx]
    congr 1 <;> apply Fin.ext <;> simp only [] <;> omega
  · refine congrArg k ?_
    rw [ix4_eq_valueIdx]
    congr 1 <;> apply Fin.ext <;> simp only [] <;> omega

theorem gP_apply (I : Dev nD → Inp Ideal) (c : Dev nD) (r : Fin 512) (n : Fin 768) :
    gP I c (ix2 r n) = ∑ h : Fin 8, ∑ e : Fin 64,
      headS (fun d => ∑ a : Fin 768, (I c).x (ix3 ⟨r.val / 256, by omega⟩ ⟨r.val % 256, by omega⟩ a) * (I c).wq (ix2 a ⟨h.val * 64 + d.val, by omega⟩))
        (fun j d => (I c).k (ix4 ⟨r.val / 256, by omega⟩ ⟨h.val / 4, by omega⟩ j d))
        (fun j d => (I c).v (ix4 ⟨r.val / 256, by omega⟩ ⟨h.val / 4, by omega⟩ j d)) e
      * ((I c).wo (ix2 ⟨h.val * 64 + e.val, by omega⟩ n) : EReal) := by
  show blk (I c) (r.val / 256) (ValueIdx.ix2 ⟨r.val % 256, _⟩ n) = _
  rw [← ix2_eq_valueIdx]
  unfold blk
  rw [blkA_apply, pay2_id, pay3_id]
  have hx : ∀ a : Fin 768, xb (I c).x (r.val / 256) (ix3 0 ⟨r.val % 256, by omega⟩ a) = (I c).x (ix3 ⟨r.val / 256, by omega⟩ ⟨r.val % 256, by omega⟩ a) := fun a => by
    unfold xb
    refine congrArg (I c).x ?_
    rw [ix3_eq_valueIdx]
    congr 1
    apply Fin.ext
    simp only []
    omega
  simp only [hx, kb_at _ (r.val / 256) (by omega)]

variable (I : Dev nD → Inp Ideal) (X : S2x256x768.Idx → EReal) (Q : Cert.ReferenceIdeal.S768x16384.Idx → EReal)
  (W : Cert.ReferenceIdeal.S16384x768.Idx → EReal) (K V : Cert.ReferenceIdeal.S2x512x64x64.Idx → EReal)

/-- The sum of the partial results is the whole arrays' attention times the output projection. -/
theorem tot_eq (hx : ∀ c, (I c).x = X)
    (hq : ∀ (c : Fin 32) (a : Fin 768) (t : Fin 512), (I c).wq (ix2 a t) = Q (ix2 a ⟨c.val * 512 + t.val, by omega⟩))
    (hw : ∀ (c : Fin 32) (t : Fin 512) (n : Fin 768), (I c).wo (ix2 t n) = W (ix2 ⟨c.val * 512 + t.val, by omega⟩ n))
    (hk : ∀ (c : Fin 32) (b h : Fin 2) (j : Fin 512) (d : Fin 64), (I c).k (ix4 b h j d) = K (ix4 b j ⟨c.val * 2 + h.val, by omega⟩ d))
    (hv : ∀ (c : Fin 32) (b h : Fin 2) (j : Fin 512) (d : Fin 64), (I c).v (ix4 b h j d) = V (ix4 b j ⟨c.val * 2 + h.val, by omega⟩ d))
    (r : Fin 512) (n : Fin 768) :
    (∑ c : Dev nD, gP I c (ix2 r n) : EReal) = ∑ T : Fin 16384, attn X Q K V r T * W (ix2 T n) := by
  refine Eq.trans ?_ (Fin.sum_mul_add_fin (M := EReal) (L := 16384) 32 512 (fun T => attn X Q K V r T * W (ix2 T n)))
  refine Finset.sum_congr rfl fun c _ => ?_
  have hc : c.val < 32 := c.isLt
  rw [gP_apply]
  refine Eq.trans ?_ (Fin.sum_mul_add_fin (M := EReal) (L := 512) 8 64 (fun t : Fin 512 => attn X Q K V r ⟨c.val * 512 + t.val, by omega⟩ * W (ix2 ⟨c.val * 512 + t.val, by omega⟩ n)))
  refine Finset.sum_congr rfl fun h _ => ?_
  refine Finset.sum_congr rfl fun e _ => ?_
  unfold attn
  have eT : (c.val * 512 + (h.val * 64 + e.val)) / 64 = c.val * 8 + h.val := by omega
  have eM : (⟨(c.val * 512 + (h.val * 64 + e.val)) % 64, by omega⟩ : Fin 64) = e := Fin.ext (by show _ % 64 = _; omega)
  have eQ : ∀ d : Fin 64, (⟨(c.val * 512 + (h.val * 64 + e.val)) / 64 * 64 + d.val, by omega⟩ : Fin 16384) = ⟨c.val * 512 + (h.val * 64 + d.val), by omega⟩ :=
    fun d => Fin.ext (by simp only []; omega)
  have eK : (⟨(c.val * 512 + (h.val * 64 + e.val)) / 64 / 4, by omega⟩ : Fin 64) = ⟨c.val * 2 + h.val / 4, by omega⟩ :=
    Fin.ext (by simp only []; omega)
  simp only [eM, eQ, eK, hx, hq c, hw c, hk c, hv c]

/-- Where the operands agree, every device's result is the reference's. -/
theorem value_eq (m : (ℓ : Loc nD τ sig) → Buf (Elt Ideal) ℓ)
    (m' : (ℓ : Loc Cert.ReferenceIdeal.nD Cert.ReferenceIdeal.τ Cert.ReferenceIdeal.sig) → Buf (Elt Ideal) ℓ) (o : Dev Cert.ReferenceIdeal.nD)
    (ha : ∀ c : Dev nD,
      m ((c.tc : Thread nD τ).loc main_arg0) = m' ((o.tc : Thread Cert.ReferenceIdeal.nD Cert.ReferenceIdeal.τ).loc Cert.ReferenceIdeal.main_arg0)
      ∧ m ((c.tc : Thread nD τ).loc main_arg1) = Layout.block ⟨2, ![768, 512]⟩ ⟨2, ![768, 16384]⟩ 1 32 c
          (m' ((o.tc : Thread Cert.ReferenceIdeal.nD Cert.ReferenceIdeal.τ).loc Cert.ReferenceIdeal.main_arg1))
      ∧ m ((c.tc : Thread nD τ).loc main_arg2) = Layout.block ⟨2, ![512, 768]⟩ ⟨2, ![16384, 768]⟩ 0 32 c
          (m' ((o.tc : Thread Cert.ReferenceIdeal.nD Cert.ReferenceIdeal.τ).loc Cert.ReferenceIdeal.main_arg2))
      ∧ m ((c.tc : Thread nD τ).loc main_arg3) = m' ((o.tc : Thread Cert.ReferenceIdeal.nD Cert.ReferenceIdeal.τ).loc Cert.ReferenceIdeal.main_arg3)
      ∧ m ((c.tc : Thread nD τ).loc main_arg4) = m' ((o.tc : Thread Cert.ReferenceIdeal.nD Cert.ReferenceIdeal.τ).loc Cert.ReferenceIdeal.main_arg4))
    (c : Dev nD) : gF (inp m) c 4 = Cert.ReferenceIdeal.Value.res_main_v28 m' o := by
  funext i
  obtain ⟨r, n, rfl⟩ : ∃ (r : Fin 512) (n : Fin 768), i = ix2 r n := ⟨i 0, i 1, by funext a; fin_cases a <;> rfl⟩
  refine (gF_tot (inp m) c (ix2 r n)).trans (Eq.trans ?_ (ref_apply m' o r n).symm)
  refine tot_eq (inp m) _ _ _ _ _ ?_ ?_ ?_ ?_ ?_ r n
  · exact fun c => (V1_of m c main_arg0 (by decide)).trans (ha c).1
  · intro c a t
    refine (congrFun ((V1_of m c main_arg1 (by decide)).trans (ha c).2.1) _).trans ?_
    rw [Layout.block_apply]
    refine congrArg _ ?_
    funext b; fin_cases b <;> rfl
  · intro c t n
    refine (congrFun ((V1_of m c main_arg2 (by decide)).trans (ha c).2.2.1) _).trans ?_
    rw [Layout.block_apply]
    refine congrArg _ ?_
    funext b; fin_cases b <;> rfl
  · exact fun c b h j d => (k_apply m c b h j d c.isLt).trans (congrFun (ha c).2.2.2.1 _)
  · exact fun c b h j d => (v_apply m c b h j d c.isLt).trans (congrFun (ha c).2.2.2.2 _)

end Cert.Exch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends as it began: its ideal print's run, which is at any float values. -/
theorem frame_kernel : Cert.quiescent_Kernel := fun m ρ _ => by
  rw [Cert.Exch.defs_same, Cert.Exch.main_same]
  exact (θ_run Cert.KernelIdeal.defs _ _).mono (fun _ h => ⟨fun c => (h.1 c).1, h.2⟩) (Cert.Exch.run_main (F := Bits) m ρ)

theorem frame_kernelIdeal : Cert.quiescent_KernelIdeal := fun m ρ _ =>
  (θ_run Cert.KernelIdeal.defs _ _).mono (fun _ h => ⟨fun c => (h.1 c).1, h.2⟩) (Cert.Exch.run_main (F := Ideal) m ρ)

/-- The reference is a straight-line host program that declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal program is the kernel's own text. -/
theorem preserves : Cert.preserves_Kernel_KernelIdeal := trivial

/-- Both programs end with the reference's term of the whole arrays. -/
theorem algebraic : Cert.algebraic_KernelIdeal_ReferenceIdeal := fun m g m' g' _ ha =>
  ⟨Cert.ReferenceIdeal.Value.res_main_v28 m' 0,
    (θ_run Cert.KernelIdeal.defs _ _).mono (fun _ h c => ⟨(h.1 c).2.trans (Cert.Exch.value_eq m m' 0 ha c), (h.1 c).1⟩)
      (Cert.Exch.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
